-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S65536x1024 : Shape := ⟨2, ![65536, 1024]⟩
abbrev S2x1024x1024 : Shape := ⟨3, ![2, 1024, 1024]⟩
abbrev S2 : Shape := ⟨1, ![2]⟩
abbrev S16 : Shape := ⟨1, ![16]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 2
  | .vmem => 2
  | .smem => 0
  | _ => 0

abbrev bufTy : (tb : Table) → Fin (tcTables nBuf tb) → BufTy
  | .hbm, ⟨0, _⟩ => ⟨S32768x1024, .f32⟩
  | .hbm, ⟨1, _⟩ => ⟨S65536x1024, .bf16⟩
  | .local _ .vmem, ⟨0, _⟩ => ⟨S2x1024x1024, .f32⟩
  | .local _ .vmem, ⟨1, _⟩ => ⟨S2x1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_6 : BitVec 32 := 1#32
  let v11 : BitVec 32 := Scalar.muli v7 c1_i32_6
  let v12 : BitVec 32 := Scalar.addi v10 v11
  v12.toNat
def k0_dev2 (d0 : Dev nD) : Nat :=
  let c0_i32_9 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_8 : BitVec 32 := 2#32
  let v13 : BitVec 32 := Scalar.muli v6 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_15 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32_14 : BitVec 32 := 16384#32
  let v23 : BitVec 32 := Scalar.muli v2 c16384_i32_14
  let v24 : BitVec 32 := Scalar.addi v23 c0_i32_15
  let c0_i32_67 : BitVec 32 := 0#32
  ![v24.toNat, 0]
def k0_off2 (d0 : Dev nD) (c0_i32_15 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c32768_i32_88 : BitVec 32 := 32768#32
  let v113 : BitVec 32 := Scalar.muli v5 c32768_i32_88
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32_14 : BitVec 32 := 16384#32
  let v23 : BitVec 32 := Scalar.muli v2 c16384_i32_14
  let v24 : BitVec 32 := Scalar.addi v23 c0_i32_15
  let v114 : BitVec 32 := Scalar.addi v113 v24
  let c0_i32_91 : BitVec 32 := 0#32
  ![v114.toNat, 0]
def k0_off3 (d0 : Dev nD) (c0_i32_100 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c32768_i32 : BitVec 32 := 32768#32
  let v17 : BitVec 32 := Scalar.muli v5 c32768_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32 : BitVec 32 := 16384#32
  let v18 : BitVec 32 := Scalar.muli v2 c16384_i32
  let v19 : BitVec 32 := Scalar.addi v17 v18
  let v126 : BitVec 32 := Scalar.addi v19 c0_i32_100
  let c0_i32_106 : BitVec 32 := 0#32
  ![v126.toNat, 0]
def k0_dev3 (d0 : Dev nD) : Nat :=
  let c0_i32_104 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_103 : BitVec 32 := 2#32
  let v127 : BitVec 32 := Scalar.muli v2 c2_i32_103
  let v128 : BitVec 32 := Scalar.addi c0_i32_104 v127
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_105 : BitVec 32 := 1#32
  let v129 : BitVec 32 := Scalar.muli v7 c1_i32_105
  let v130 : BitVec 32 := Scalar.addi v128 v129
  v130.toNat
def k0_dev4 (d0 : Dev nD) : Nat :=
  let c0_i32_139 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_138 : BitVec 32 := 2#32
  let v167 : BitVec 32 := Scalar.muli v2 c2_i32_138
  let v168 : BitVec 32 := Scalar.addi c0_i32_139 v167
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_140 : BitVec 32 := 1#32
  let v169 : BitVec 32 := Scalar.muli v7 c1_i32_140
  let v170 : BitVec 32 := Scalar.addi v168 v169
  v170.toNat
def k0_dev5 (d0 : Dev nD) : Nat :=
  let c0_i32_175 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_174 : BitVec 32 := 2#32
  let v207 : BitVec 32 := Scalar.muli v2 c2_i32_174
  let v208 : BitVec 32 := Scalar.addi c0_i32_175 v207
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_176 : BitVec 32 := 1#32
  let v209 : BitVec 32 := Scalar.muli v7 c1_i32_176
  let v210 : BitVec 32 := Scalar.addi v208 v209
  v210.toNat
def k0_dev6 (d0 : Dev nD) : Nat :=
  let c0_i32_210 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_209 : BitVec 32 := 2#32
  let v247 : BitVec 32 := Scalar.muli v2 c2_i32_209
  let v248 : BitVec 32 := Scalar.addi c0_i32_210 v247
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_211 : BitVec 32 := 1#32
  let v249 : BitVec 32 := Scalar.muli v7 c1_i32_211
  let v250 : BitVec 32 := Scalar.addi v248 v249
  v250.toNat
def k0_dev7 (d0 : Dev nD) : Nat :=
  let c0_i32_245 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_244 : BitVec 32 := 2#32
  let v287 : BitVec 32 := Scalar.muli v2 c2_i32_244
  let v288 : BitVec 32 := Scalar.addi c0_i32_245 v287
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_246 : BitVec 32 := 1#32
  let v289 : BitVec 32 := Scalar.muli v7 c1_i32_246
  let v290 : BitVec 32 := Scalar.addi v288 v289
  v290.toNat
def k0_dev8 (d0 : Dev nD) : Nat :=
  let c0_i32_280 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_279 : BitVec 32 := 2#32
  let v327 : BitVec 32 := Scalar.muli v2 c2_i32_279
  let v328 : BitVec 32 := Scalar.addi c0_i32_280 v327
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_281 : BitVec 32 := 1#32
  let v329 : BitVec 32 := Scalar.muli v7 c1_i32_281
  let v330 : BitVec 32 := Scalar.addi v328 v329
  v330.toNat
def k0_dev9 (d0 : Dev nD) : Nat :=
  let c0_i32_315 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_314 : BitVec 32 := 2#32
  let v367 : BitVec 32 := Scalar.muli v2 c2_i32_314
  let v368 : BitVec 32 := Scalar.addi c0_i32_315 v367
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_316 : BitVec 32 := 1#32
  let v369 : BitVec 32 := Scalar.muli v7 c1_i32_316
  let v370 : BitVec 32 := Scalar.addi v368 v369
  v370.toNat
def k0_dev10 (d0 : Dev nD) : Nat :=
  let c0_i32_350 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_349 : BitVec 32 := 2#32
  let v407 : BitVec 32 := Scalar.muli v2 c2_i32_349
  let v408 : BitVec 32 := Scalar.addi c0_i32_350 v407
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_351 : BitVec 32 := 1#32
  let v409 : BitVec 32 := Scalar.muli v7 c1_i32_351
  let v410 : BitVec 32 := Scalar.addi v408 v409
  v410.toNat
def k0_dev11 (d0 : Dev nD) : Nat :=
  let c0_i32_385 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_384 : BitVec 32 := 2#32
  let v447 : BitVec 32 := Scalar.muli v2 c2_i32_384
  let v448 : BitVec 32 := Scalar.addi c0_i32_385 v447
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_386 : BitVec 32 := 1#32
  let v449 : BitVec 32 := Scalar.muli v7 c1_i32_386
  let v450 : BitVec 32 := Scalar.addi v448 v449
  v450.toNat
def k0_dev12 (d0 : Dev nD) : Nat :=
  let c0_i32_420 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_419 : BitVec 32 := 2#32
  let v487 : BitVec 32 := Scalar.muli v2 c2_i32_419
  let v488 : BitVec 32 := Scalar.addi c0_i32_420 v487
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_421 : BitVec 32 := 1#32
  let v489 : BitVec 32 := Scalar.muli v7 c1_i32_421
  let v490 : BitVec 32 := Scalar.addi v488 v489
  v490.toNat
def k0_dev13 (d0 : Dev nD) : Nat :=
  let c0_i32_455 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_454 : BitVec 32 := 2#32
  let v527 : BitVec 32 := Scalar.muli v2 c2_i32_454
  let v528 : BitVec 32 := Scalar.addi c0_i32_455 v527
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_456 : BitVec 32 := 1#32
  let v529 : BitVec 32 := Scalar.muli v7 c1_i32_456
  let v530 : BitVec 32 := Scalar.addi v528 v529
  v530.toNat
def k0_dev14 (d0 : Dev nD) : Nat :=
  let c0_i32_490 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_489 : BitVec 32 := 2#32
  let v567 : BitVec 32 := Scalar.muli v2 c2_i32_489
  let v568 : BitVec 32 := Scalar.addi c0_i32_490 v567
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_491 : BitVec 32 := 1#32
  let v569 : BitVec 32 := Scalar.muli v7 c1_i32_491
  let v570 : BitVec 32 := Scalar.addi v568 v569
  v570.toNat
def k0_dev15 (d0 : Dev nD) : Nat :=
  let c0_i32_525 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_524 : BitVec 32 := 2#32
  let v607 : BitVec 32 := Scalar.muli v2 c2_i32_524
  let v608 : BitVec 32 := Scalar.addi c0_i32_525 v607
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_526 : BitVec 32 := 1#32
  let v609 : BitVec 32 := Scalar.muli v7 c1_i32_526
  let v610 : BitVec 32 := Scalar.addi v608 v609
  v610.toNat
def k0_dev16 (d0 : Dev nD) : Nat :=
  let c0_i32_560 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_559 : BitVec 32 := 2#32
  let v647 : BitVec 32 := Scalar.muli v2 c2_i32_559
  let v648 : BitVec 32 := Scalar.addi c0_i32_560 v647
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_561 : BitVec 32 := 1#32
  let v649 : BitVec 32 := Scalar.muli v7 c1_i32_561
  let v650 : BitVec 32 := Scalar.addi v648 v649
  v650.toNat
def k0_off4 (d0 : Dev nD) (c0_i32_32 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c16384_i32_31 : BitVec 32 := 16384#32
  let v55 : BitVec 32 := Scalar.muli v6 c16384_i32_31
  let v56 : BitVec 32 := Scalar.addi v55 c0_i32_32
  let c0_i32_579 : BitVec 32 := 0#32
  ![v56.toNat, 0]
def k0_dev17 (d0 : Dev nD) : Nat :=
  let c0_i32_595 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_594 : BitVec 32 := 2#32
  let v687 : BitVec 32 := Scalar.muli v2 c2_i32_594
  let v688 : BitVec 32 := Scalar.addi c0_i32_595 v687
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_596 : BitVec 32 := 1#32
  let v689 : BitVec 32 := Scalar.muli v7 c1_i32_596
  let v690 : BitVec 32 := Scalar.addi v688 v689
  v690.toNat
def k0_dev18 (d0 : Dev nD) : Nat :=
  let c0_i32_630 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_629 : BitVec 32 := 2#32
  let v727 : BitVec 32 := Scalar.muli v2 c2_i32_629
  let v728 : BitVec 32 := Scalar.addi c0_i32_630 v727
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_631 : BitVec 32 := 1#32
  let v729 : BitVec 32 := Scalar.muli v7 c1_i32_631
  let v730 : BitVec 32 := Scalar.addi v728 v729
  v730.toNat
def k0_off5 (d0 : Dev nD) (c0_i32_32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c32768_i32_650 : BitVec 32 := 32768#32
  let v753 : BitVec 32 := Scalar.muli v5 c32768_i32_650
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c16384_i32_31 : BitVec 32 := 16384#32
  let v55 : BitVec 32 := Scalar.muli v6 c16384_i32_31
  let v56 : BitVec 32 := Scalar.addi v55 c0_i32_32
  let v754 : BitVec 32 := Scalar.addi v753 v56
  let c0_i32_653 : BitVec 32 := 0#32
  ![v754.toNat, 0]
def k0_off6 (d0 : Dev nD) (c0_i32_664 : BitVec 32) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c32768_i32_12 : BitVec 32 := 32768#32
  let v20 : BitVec 32 := Scalar.muli v7 c32768_i32_12
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32_13 : BitVec 32 := 16384#32
  let v21 : BitVec 32 := Scalar.muli v2 c16384_i32_13
  let v22 : BitVec 32 := Scalar.addi v20 v21
  let v769 : BitVec 32 := Scalar.addi v22 c0_i32_664
  let c0_i32_670 : BitVec 32 := 0#32
  ![v769.toNat, 0]
def k0_dev19 (d0 : Dev nD) : Nat :=
  let c0_i32_668 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_667 : BitVec 32 := 2#32
  let v770 : BitVec 32 := Scalar.muli v6 c2_i32_667
  let v771 : BitVec 32 := Scalar.addi c0_i32_668 v770
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_669 : BitVec 32 := 1#32
  let v772 : BitVec 32 := Scalar.muli v5 c1_i32_669
  let v773 : BitVec 32 := Scalar.addi v771 v772
  v773.toNat
def k0_dev20 (d0 : Dev nD) : Nat :=
  let c0_i32_706 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_705 : BitVec 32 := 2#32
  let v813 : BitVec 32 := Scalar.muli v6 c2_i32_705
  let v814 : BitVec 32 := Scalar.addi c0_i32_706 v813
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_707 : BitVec 32 := 1#32
  let v815 : BitVec 32 := Scalar.muli v5 c1_i32_707
  let v816 : BitVec 32 := Scalar.addi v814 v815
  v816.toNat
def k0_dev21 (d0 : Dev nD) : Nat :=
  let c0_i32_749 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_748 : BitVec 32 := 2#32
  let v861 : BitVec 32 := Scalar.muli v6 c2_i32_748
  let v862 : BitVec 32 := Scalar.addi c0_i32_749 v861
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_750 : BitVec 32 := 1#32
  let v863 : BitVec 32 := Scalar.muli v5 c1_i32_750
  let v864 : BitVec 32 := Scalar.addi v862 v863
  v864.toNat
def k0_dev22 (d0 : Dev nD) : Nat :=
  let c0_i32_792 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_791 : BitVec 32 := 2#32
  let v909 : BitVec 32 := Scalar.muli v6 c2_i32_791
  let v910 : BitVec 32 := Scalar.addi c0_i32_792 v909
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_793 : BitVec 32 := 1#32
  let v911 : BitVec 32 := Scalar.muli v5 c1_i32_793
  let v912 : BitVec 32 := Scalar.addi v910 v911
  v912.toNat
def k0_dev23 (d0 : Dev nD) : Nat :=
  let c0_i32_835 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_834 : BitVec 32 := 2#32
  let v957 : BitVec 32 := Scalar.muli v6 c2_i32_834
  let v958 : BitVec 32 := Scalar.addi c0_i32_835 v957
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_836 : BitVec 32 := 1#32
  let v959 : BitVec 32 := Scalar.muli v5 c1_i32_836
  let v960 : BitVec 32 := Scalar.addi v958 v959
  v960.toNat
def k0_dev24 (d0 : Dev nD) : Nat :=
  let c0_i32_878 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_877 : BitVec 32 := 2#32
  let v1005 : BitVec 32 := Scalar.muli v6 c2_i32_877
  let v1006 : BitVec 32 := Scalar.addi c0_i32_878 v1005
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_879 : BitVec 32 := 1#32
  let v1007 : BitVec 32 := Scalar.muli v5 c1_i32_879
  let v1008 : BitVec 32 := Scalar.addi v1006 v1007
  v1008.toNat
def k0_dev25 (d0 : Dev nD) : Nat :=
  let c0_i32_921 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_920 : BitVec 32 := 2#32
  let v1053 : BitVec 32 := Scalar.muli v6 c2_i32_920
  let v1054 : BitVec 32 := Scalar.addi c0_i32_921 v1053
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_922 : BitVec 32 := 1#32
  let v1055 : BitVec 32 := Scalar.muli v5 c1_i32_922
  let v1056 : BitVec 32 := Scalar.addi v1054 v1055
  v1056.toNat
def k0_dev26 (d0 : Dev nD) : Nat :=
  let c0_i32_964 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_963 : BitVec 32 := 2#32
  let v1101 : BitVec 32 := Scalar.muli v6 c2_i32_963
  let v1102 : BitVec 32 := Scalar.addi c0_i32_964 v1101
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_965 : BitVec 32 := 1#32
  let v1103 : BitVec 32 := Scalar.muli v5 c1_i32_965
  let v1104 : BitVec 32 := Scalar.addi v1102 v1103
  v1104.toNat
def k0_dev27 (d0 : Dev nD) : Nat :=
  let c0_i32_1007 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1006 : BitVec 32 := 2#32
  let v1149 : BitVec 32 := Scalar.muli v6 c2_i32_1006
  let v1150 : BitVec 32 := Scalar.addi c0_i32_1007 v1149
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1008 : BitVec 32 := 1#32
  let v1151 : BitVec 32 := Scalar.muli v5 c1_i32_1008
  let v1152 : BitVec 32 := Scalar.addi v1150 v1151
  v1152.toNat
def k0_dev28 (d0 : Dev nD) : Nat :=
  let c0_i32_1050 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1049 : BitVec 32 := 2#32
  let v1197 : BitVec 32 := Scalar.muli v6 c2_i32_1049
  let v1198 : BitVec 32 := Scalar.addi c0_i32_1050 v1197
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1051 : BitVec 32 := 1#32
  let v1199 : BitVec 32 := Scalar.muli v5 c1_i32_1051
  let v1200 : BitVec 32 := Scalar.addi v1198 v1199
  v1200.toNat
def k0_dev29 (d0 : Dev nD) : Nat :=
  let c0_i32_1093 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1092 : BitVec 32 := 2#32
  let v1245 : BitVec 32 := Scalar.muli v6 c2_i32_1092
  let v1246 : BitVec 32 := Scalar.addi c0_i32_1093 v1245
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1094 : BitVec 32 := 1#32
  let v1247 : BitVec 32 := Scalar.muli v5 c1_i32_1094
  let v1248 : BitVec 32 := Scalar.addi v1246 v1247
  v1248.toNat
def k0_dev30 (d0 : Dev nD) : Nat :=
  let c0_i32_1136 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1135 : BitVec 32 := 2#32
  let v1293 : BitVec 32 := Scalar.muli v6 c2_i32_1135
  let v1294 : BitVec 32 := Scalar.addi c0_i32_1136 v1293
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1137 : BitVec 32 := 1#32
  let v1295 : BitVec 32 := Scalar.muli v5 c1_i32_1137
  let v1296 : BitVec 32 := Scalar.addi v1294 v1295
  v1296.toNat
def k0_dev31 (d0 : Dev nD) : Nat :=
  let c0_i32_1179 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1178 : BitVec 32 := 2#32
  let v1341 : BitVec 32 := Scalar.muli v6 c2_i32_1178
  let v1342 : BitVec 32 := Scalar.addi c0_i32_1179 v1341
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1180 : BitVec 32 := 1#32
  let v1343 : BitVec 32 := Scalar.muli v5 c1_i32_1180
  let v1344 : BitVec 32 := Scalar.addi v1342 v1343
  v1344.toNat
def k0_dev32 (d0 : Dev nD) : Nat :=
  let c0_i32_1222 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1221 : BitVec 32 := 2#32
  let v1389 : BitVec 32 := Scalar.muli v6 c2_i32_1221
  let v1390 : BitVec 32 := Scalar.addi c0_i32_1222 v1389
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1223 : BitVec 32 := 1#32
  let v1391 : BitVec 32 := Scalar.muli v5 c1_i32_1223
  let v1392 : BitVec 32 := Scalar.addi v1390 v1391
  v1392.toNat
def k0_dev33 (d0 : Dev nD) : Nat :=
  let c0_i32_1260 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1259 : BitVec 32 := 2#32
  let v1432 : BitVec 32 := Scalar.muli v6 c2_i32_1259
  let v1433 : BitVec 32 := Scalar.addi c0_i32_1260 v1432
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1261 : BitVec 32 := 1#32
  let v1434 : BitVec 32 := Scalar.muli v5 c1_i32_1261
  let v1435 : BitVec 32 := Scalar.addi v1433 v1434
  v1435.toNat
def k0_dev34 (d0 : Dev nD) : Nat :=
  let c0_i32_1298 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1297 : BitVec 32 := 2#32
  let v1475 : BitVec 32 := Scalar.muli v6 c2_i32_1297
  let v1476 : BitVec 32 := Scalar.addi c0_i32_1298 v1475
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1299 : BitVec 32 := 1#32
  let v1477 : BitVec 32 := Scalar.muli v5 c1_i32_1299
  let v1478 : BitVec 32 := Scalar.addi v1476 v1477
  v1478.toNat
-- ==== ReferenceIdeal.lean ====
abbrev S65536x1024 : Shape := ⟨2, ![65536, 1024]⟩

abbrev nBuf : Space → Nat
  | .hbm => 2
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Steps.lean ====
/-
# The kernel's body as a short program of named steps

The kernel is printed with its loops unrolled. Here the same body is written as what its author wrote: an opening
handshake, sixteen rounds that send a device's own half to its neighbour along `y`, sixteen rounds that forward what
that neighbour sent to the neighbour along `x`, and a closing round of waits. Each memory operation is a
definition over its offset, so that a rule about it is stated once.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Gather

open Cert.KernelIdeal Cert.KernelIdeal.Gen
open Idealize.ShloMosaic Idealize.ShloMosaic.TcCoe
open Idealize.SL Idealize.SL.Sem

variable {F : FTy → Type} [FloatOps F]

/-- The programs of the kernel's core. -/
abbrev KProg (F : FTy → Type) (α : Type) : Type 1 := Prog (TpuEff nD τ sig (Elt F) Λ₀ .tc) α

/-! ## The buffers and semaphores -/

abbrev xM : Memref sig .tc .hbm S32768x1024 .f32 := Memref.whole main_arg0
abbrev oM : Memref sig .tc .hbm S65536x1024 .bf16 := Memref.whole main_v1
abbrev viM : Memref sig .tc .vmem S2x1024x1024 .f32 := Memref.whole cc0_scratch0
abbrev voM : Memref sig .tc .vmem S2x1024x1024 .bf16 := Memref.whole cc0_scratch1

/-- 1024 rows of the argument from the row `off 0` on. -/
abbrev xBlk (off : Fin 2 → ℕ) (h : ∀ a, off a + S1024x1024.size a ≤ S32768x1024.size a) : Memref sig .tc .hbm S1024x1024 .f32 :=
  xM.slice (Rect.unit (s := S32768x1024) off S1024x1024.size h) (fun _ => rfl)
/-- 1024 rows of the result from the row `off 0` on. -/
abbrev oBlk (off : Fin 2 → ℕ) (h : ∀ a, off a + S1024x1024.size a ≤ S65536x1024.size a) : Memref sig .tc .hbm S1024x1024 .bf16 :=
  oM.slice (Rect.unit (s := S65536x1024) off S1024x1024.size h) (fun _ => rfl)

theorem slot_inb (s : Fin 2) : ∀ a, (![s.val, 0, 0] : Fin 3 → ℕ) a + S1x1024x1024.size a ≤ S2x1024x1024.size a := by
  revert s; decide
/-- The rectangle of a staging buffer's slot `s`. -/
abbrev slotR (s : Fin 2) : Rect S2x1024x1024 := Rect.unit (s := S2x1024x1024) ![s.val, 0, 0] S1x1024x1024.size (slot_inb s)
theorem slot_packed (s : Fin 2) : (slotR s).PackedRows (EltTy.packing .bf16) := by revert s; decide
theorem slot_words (s : Fin 2) : (slotR s).WholeWords (EltTy.packing .bf16) := by revert s; decide
/-- Slot `s` of the staging buffer the argument is copied into, as a block; and of the one the result is copied from. -/
abbrev viS (s : Fin 2) : Memref sig .tc .vmem S1024x1024 .f32 :=
  (viM.slice (slotR s) (fun _ => rfl)).squeeze S1024x1024 squeezes_S1x1024x1024_S1024x1024
abbrev voS (s : Fin 2) : Memref sig .tc .vmem S1024x1024 .bf16 :=
  (voM.slice (slotR s) (fun _ => rfl)).squeeze S1024x1024 squeezes_S1x1024x1024_S1024x1024

theorem two_inb (s : Fin 2) : ∀ a, (![s.val] : Fin 1 → ℕ) a + S1.size a ≤ S2.size a := by revert s; decide
theorem sixteen_inb (j : Fin 16) : ∀ a, (![j.val] : Fin 1 → ℕ) a + S1.size a ≤ S16.size a := by revert j; decide
/-- Semaphore `s` of a pair, semaphore `j` of sixteen. -/
abbrev sem2 (A : DmaSems sig S2) (s : Fin 2) : DmaSem sig :=
  ((A.slice (Rect.unit (s := S2) ![s.val] S1.size (two_inb s))).squeeze S_ squeezes_S1_S_).sem
abbrev sem16 (A : DmaSems sig S16) (j : Fin 16) : DmaSem sig :=
  ((A.slice (Rect.unit (s := S16) ![j.val] S1.size (sixteen_inb j))).squeeze S_ squeezes_S1_S_).sem

/-- The runtime's barrier semaphore. -/
abbrev barS : Sem sig := (SemArray.scalar (sig.barrier 0 rfl) : Sems sig S_).sem

theorem wordsX (off : Fin 2 → ℕ) (h) : (xBlk off h).view.WordExact := View.wordExact_bits rfl
theorem wordsVi (s : Fin 2) : (viS s).view.WordExact := (View.wordExact_bits rfl).reshape _ _
theorem wordsVo (s : Fin 2) : (voS s).view.WordExact := ((Memref.isWhole_whole cc0_scratch1).wordExact_slice rfl _ (slot_words s)).reshape _ _

/-! ## The operations -/

/-- Start copying 1024 rows of the argument into slot `s`; wait for that copy. -/
def startIn (s : Fin 2) (off : Fin 2 → ℕ) (h : ∀ a, off a + S1024x1024.size a ≤ S32768x1024.size a) : KProg F PUnit :=
  Prog.lift (.enqueueDma (xBlk off h) (.here (viS s)) (.dma (sem2 cc0_scratch2 s)) (wordsX off h) (wordsVi s) ⟨Or.inl rfl, trivial⟩)
def waitIn (s : Fin 2) (off : Fin 2 → ℕ) (h : ∀ a, off a + S1024x1024.size a ≤ S32768x1024.size a) : KProg F PUnit :=
  Prog.lift (.waitDma2 (sem2 cc0_scratch2 s) (xBlk off h) (viS s) (wordsX off h) (wordsVi s))

/-- Cast slot `s` to the narrower type, into slot `s` of the second staging buffer. -/
def castSlot (s : Fin 2) : KProg F PUnit := do
  let v : Vec F S1x1024x1024 .f32 ← Prog.lift (.load viM (slotR s).toLoadRect (View.loadsAt_vmem h_S1x1024x1024))
  let _ : Vec F S1x1024x1024 .bf16 ← Prog.lift (.load voM (slotR s).toLoadRect (View.loadsAt_vmem h_S1x1024x1024))
  Prog.lift (.store voM (slotR s) (k0_pay1 v) Finset.univ
    (View.stores_vmem h_S1x1024x1024 ((Memref.isWhole_whole cc0_scratch1).storeExact_slice rfl _ (slot_packed s)) (fun _ => rfl)) (.inl rfl))

/-- Start copying slot `s` to 1024 rows of the result; wait for that copy. -/
def startOut (s : Fin 2) (off : Fin 2 → ℕ) (h : ∀ a, off a + S1024x1024.size a ≤ S65536x1024.size a) (w : (oBlk off h).view.WordExact) : KProg F PUnit :=
  Prog.lift (.enqueueDma (voS s) (.here (oBlk off h)) (.dma (sem2 cc0_scratch3 s)) (wordsVo s) w ⟨Or.inl rfl, trivial⟩)
def waitOut (s : Fin 2) (off : Fin 2 → ℕ) (h : ∀ a, off a + S1024x1024.size a ≤ S65536x1024.size a) (w : (oBlk off h).view.WordExact) : KProg F PUnit :=
  Prog.lift (.waitDma2 (sem2 cc0_scratch3 s) (voS s) (oBlk off h) (wordsVo s) w)

/-- Copy 1024 rows of this device's result into the same rows of device `n`'s; wait for a copy of those rows on one of
    this device's semaphores. -/
def sendRows (n : Dev nD) (A B : DmaSems sig S16) (j : Fin 16) (off : Fin 2 → ℕ) (h : ∀ a, off a + S1024x1024.size a ≤ S65536x1024.size a)
    (w : (oBlk off h).view.WordExact) : KProg F PUnit :=
  Prog.lift (.enqueueDma (oBlk off h) (.remote (Dev.tc n) (oBlk off h) (.dma (sem16 A j))) (.dma (sem16 B j)) w w ⟨⟨rfl, Or.inl rfl⟩, trivial⟩)
def waitRows (A : DmaSems sig S16) (j : Fin 16) (off : Fin 2 → ℕ) (h : ∀ a, off a + S1024x1024.size a ≤ S65536x1024.size a)
    (w : (oBlk off h).view.WordExact) : KProg F PUnit :=
  Prog.lift (.waitDma2 (sem16 A j) (oBlk off h) (oBlk off h) w w)

/-! ## The offsets, by copy number -/

/-- A copy number below 32 as one of the sixteen of its half. -/
def lowHalf (n : Fin 32) : Fin 16 := ⟨n.val % 16, Nat.mod_lt _ (by decide)⟩
/-- The staging slot of a copy. -/
def slotOf (n : Fin 32) : Fin 2 := ⟨n.val % 2, Nat.mod_lt _ (by decide)⟩

/-- Where copy `n` reads the argument, and where it writes the result. -/
def inOff (d : Dev nD) (n : Fin 32) : Fin 2 → ℕ :=
  if n.val < 16 then k0_off1 d (BitVec.ofNat 32 (1024 * (lowHalf n).val)) else k0_off4 d (BitVec.ofNat 32 (1024 * (lowHalf n).val))
def outOff (d : Dev nD) (n : Fin 32) : Fin 2 → ℕ :=
  if n.val < 16 then k0_off2 d (BitVec.ofNat 32 (1024 * (lowHalf n).val)) else k0_off5 d (BitVec.ofNat 32 (1024 * (lowHalf n).val))
/-- The rows round `j` sends along `y`, and those it forwards along `x`. -/
def ownOff (d : Dev nD) (j : Fin 16) : Fin 2 → ℕ := k0_off3 d (BitVec.ofNat 32 (1024 * j.val))
def fwdOff (d : Dev nD) (j : Fin 16) : Fin 2 → ℕ := k0_off6 d (BitVec.ofNat 32 (1024 * j.val))

theorem inOff_inb (d : Dev nD) (n : Fin 32) : ∀ a, inOff d n a + S1024x1024.size a ≤ S32768x1024.size a := by
  unfold inOff; split
  · exact k0_off1_inb d (lowHalf n)
  · exact k0_off4_inb d (lowHalf n)
theorem outOff_inb (d : Dev nD) (n : Fin 32) : ∀ a, outOff d n a + S1024x1024.size a ≤ S65536x1024.size a := by
  unfold outOff; split
  · exact k0_off2_inb d (lowHalf n)
  · exact k0_off5_inb d (lowHalf n)
theorem oBlk_words (off : Fin 2 → ℕ) (h : ∀ a, off a + S1024x1024.size a ≤ S65536x1024.size a)
    (w : (Rect.unit (s := S65536x1024) off S1024x1024.size h).WholeWords (EltTy.packing .bf16)) : (oBlk off h).view.WordExact :=
  (Memref.isWhole_whole main_v1).wordExact_slice rfl _ w
theorem outOff_words (d : Dev nD) (n : Fin 32) : (oBlk (outOff d n) (outOff_inb d n)).view.WordExact := by
  apply oBlk_words
  revert n; revert d
  unfold outOff
  intro d n
  split
  · exact k0_off2_wordsbf16 d (lowHalf n)
  · exact k0_off5_wordsbf16 d (lowHalf n)

/-- The neighbour along `y`, and the one along `x`. -/
def yDev (d : Dev nD) : Dev nD := ⟨k0_dev1 d, k0_dev1_lt d⟩
def xDev (d : Dev nD) : Dev nD := ⟨k0_dev2 d, k0_dev2_lt d⟩

/-! ## The program -/

abbrev inStart (d : Dev nD) (n : Fin 32) : KProg F PUnit := startIn (slotOf n) (inOff d n) (inOff_inb d n)
abbrev inWait (d : Dev nD) (n : Fin 32) : KProg F PUnit := waitIn (slotOf n) (inOff d n) (inOff_inb d n)
abbrev outStart (d : Dev nD) (n : Fin 32) : KProg F PUnit := startOut (slotOf n) (outOff d n) (outOff_inb d n) (outOff_words d n)
abbrev outWait (d : Dev nD) (n : Fin 32) : KProg F PUnit := waitOut (slotOf n) (outOff d n) (outOff_inb d n) (outOff_words d n)
abbrev ownWords (d : Dev nD) (j : Fin 16) : (oBlk (ownOff d j) (k0_off3_inb d j)).view.WordExact := oBlk_words _ _ (k0_off3_wordsbf16 d j)
abbrev fwdWords (d : Dev nD) (j : Fin 16) : (oBlk (fwdOff d j) (k0_off6_inb d j)).view.WordExact := oBlk_words _ _ (k0_off6_wordsbf16 d j)

/-- Do `p` if the condition holds. -/
abbrev doIf (b : Bool) (p : KProg F PUnit) : KProg F PUnit := match b with
  | true => p
  | false => pure ⟨⟩

/-- Copy number `16 * i + j`, and the one `k` after it. -/
abbrev num (i : ℕ) (j : Fin 16) (k : ℕ) : Fin 32 := ⟨(16 * i + j.val + k) % 32, Nat.mod_lt _ (by decide)⟩

/-- Round `j` of the first half: stage a block of this device's own half, copy it to the result, send it along `y`. -/
def roundA (d : Dev nD) (j : Fin 16) : KProg F PUnit := do
  inWait d (num 0 j 0)
  castSlot (slotOf (num 0 j 0))
  inStart d (num 0 j 2)
  outStart d (num 0 j 0)
  outWait d (num 0 j 0)
  sendRows (yDev d) cc0_scratch4 cc0_scratch5 j (ownOff d j) (k0_off3_inb d j) (ownWords d j)

/-- Round `j` of the second half: stage a block of the other half, copy it to the result, receive the block sent along
    `y` and forward it along `x`. -/
def roundB (d : Dev nD) (j : Fin 16) : KProg F PUnit := do
  inWait d (num 1 j 0)
  doIf (decide (2 ≤ j.val)) (outWait d (num 0 j 14))
  castSlot (slotOf (num 1 j 0))
  doIf (decide (j.val < 14)) (inStart d (num 1 j 2))
  outStart d (num 1 j 0)
  waitRows cc0_scratch5 j (ownOff d j) (k0_off3_inb d j) (ownWords d j)
  sendRows (xDev d) cc0_scratch6 cc0_scratch7 j (fwdOff d j) (k0_off6_inb d j) (fwdWords d j)

/-- Round `j` of the closing waits. -/
def roundC (d : Dev nD) (j : Fin 16) : KProg F PUnit := do
  waitRows cc0_scratch4 j (ownOff d j) (k0_off3_inb d j) (ownWords d j)
  waitRows cc0_scratch6 j (fwdOff d j) (k0_off6_inb d j) (fwdWords d j)
  waitRows cc0_scratch7 j (fwdOff d j) (k0_off6_inb d j) (fwdWords d j)

/-- The first `n` of sixteen rounds, then `k`. -/
def rounds (f : Fin 16 → KProg F PUnit) : (n : ℕ) → n ≤ 16 → KProg F PUnit → KProg F PUnit
  | 0, _, k => k
  | n + 1, h, k => rounds f n (Nat.le_of_succ_le h) (f ⟨n, h⟩ >>= fun _ => k)

/-- The body. -/
def body : KProg F PUnit := do
  let d : Dev nD ← Prog.lift .deviceId
  semSignalWord (yDev d) barS 1#32
  semSignalWord (xDev d) barS 1#32
  semWaitWord barS 2#32
  inStart d 0
  inStart d 1
  rounds (roundA d) 16 (Nat.le_refl _) <| rounds (roundB d) 16 (Nat.le_refl _) do
    outWait d 30
    outWait d 31
    rounds (roundC d) 16 (Nat.le_refl _) (pure ⟨⟩)

end Cert.Gather

end
-- ==== Proof.Same.lean ====
/-
# The printed body

The body as printed and the body written from named steps are one program.
-/
module
public import proofs.«01_k».proof.Proof.Steps
@[expose] public section
noncomputable section
namespace Cert.Gather
open Cert.KernelIdeal Cert.KernelIdeal.Gen
open Idealize.ShloMosaic Idealize.ShloMosaic.TcCoe
open Idealize.SL Idealize.SL.Sem
variable {F : FTy → Type} [FloatOps F]
set_option maxRecDepth 100000 in
set_option maxHeartbeats 0 in
/-- The printed body is the program of steps. -/
theorem body_eq (t : Fin cfg0.N) : bodyAt0 (F := F) t = body := rfl
end Cert.Gather
end
-- ==== Proof.Blocks.lean ====
/-
# Row blocks

The result's 65536 rows are 64 blocks of 1024 rows, the argument's 32768 rows 32 such blocks. Here: which block each
step of the kernel reads and writes, what it is worth saying that a memref's elements hold given values, and that the
64 blocks are the whole result, each written once.
-/
module

public import proofs.«01_k».proof.Proof.Steps
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Rounds
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra of the proof's tokens: the launch's own, the exchange's cells, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-- A weakest precondition on device `d`'s core. -/
abbrev WP (d : Dev nD) {α : Type} (p : KProg F α) (Q : α → sProp 𝕄) : sProp 𝕄 :=
  wp frame (wpE (defs₀ (F := F)) 𝒱₀ (d : Thread nD τ) none) Set.univ p Q

/-! ## Blocks of rows -/

theorem xRow_inb (b : Fin 32) : ∀ a, (![1024 * b.val, 0] : Fin 2 → ℕ) a + S1024x1024.size a ≤ S32768x1024.size a := by
  revert b; decide
theorem oRow_inb (b : Fin 64) : ∀ a, (![1024 * b.val, 0] : Fin 2 → ℕ) a + S1024x1024.size a ≤ S65536x1024.size a := by
  revert b; decide
/-- Block `b` of the argument, of the result. -/
abbrev xRow (b : Fin 32) : Memref sig .tc .hbm S1024x1024 .f32 := xBlk ![1024 * b.val, 0] (xRow_inb b)
abbrev oRow (b : Fin 64) : Memref sig .tc .hbm S1024x1024 .bf16 := oBlk ![1024 * b.val, 0] (oRow_inb b)

/-- What a block's transfer credits, and a staging slot's. -/
abbrev N : ℕ := (oRow 0).view.dmaCredit
abbrev NI : ℕ := (viS 0).view.dmaCredit
theorem N_pos : 0 < N := View.dmaCredit_pos _ (by decide)
theorem NI_pos : 0 < NI := View.dmaCredit_pos _ (by decide)
theorem credit_oBlk (off : Fin 2 → ℕ) (h) : (oBlk off h).view.dmaCredit = N := rfl
theorem credit_viS (s : Fin 2) : (viS s).view.dmaCredit = NI := rfl

/-- The block of the argument copy `n` of device `d` reads, and the block of the result it writes. -/
def inB (d : Dev nD) (n : Fin 32) : Fin 32 :=
  ⟨(if n.val < 16 then 16 * (d.val / 2) + n.val else n.val - 16 * (d.val / 2)) % 32, Nat.mod_lt _ (by decide)⟩
def outB (d : Dev nD) (n : Fin 32) : Fin 64 :=
  ⟨(32 * (d.val % 2) + (inB d n).val) % 64, Nat.mod_lt _ (by decide)⟩
/-- The block round `j` forwards along `x`. -/
def fwdB (d : Dev nD) (j : Fin 16) : Fin 64 :=
  ⟨(16 * (d.val / 2) + j.val + 32 - 32 * (d.val % 2)) % 64, Nat.mod_lt _ (by decide)⟩
/-- Copy `n` by a plain number. -/
abbrev cp (n : ℕ) : Fin 32 := ⟨n % 32, Nat.mod_lt _ (by decide)⟩

theorem inOff_eq (d : Dev nD) (n : Fin 32) : inOff d n = ![1024 * (inB d n).val, 0] := by revert d n; decide +kernel
theorem outOff_eq (d : Dev nD) (n : Fin 32) : outOff d n = ![1024 * (outB d n).val, 0] := by revert d n; decide +kernel
theorem ownOff_eq (d : Dev nD) (j : Fin 16) : ownOff d j = ![1024 * (outB d (cp j.val)).val, 0] := by revert d j; decide +kernel
theorem fwdOff_eq (d : Dev nD) (j : Fin 16) : fwdOff d j = ![1024 * (fwdB d j).val, 0] := by revert d j; decide +kernel

theorem yDev_yDev (d : Dev nD) : yDev (yDev d) = d := by revert d; decide +kernel
theorem xDev_xDev (d : Dev nD) : xDev (xDev d) = d := by revert d; decide +kernel
theorem xDev_yDev (d : Dev nD) : xDev (yDev d) = yDev (xDev d) := by revert d; decide +kernel
theorem own_yDev (d : Dev nD) (j : Fin 16) : outB (yDev d) (cp j.val) = fwdB d j := by revert d j; decide +kernel

/-! ## A memref's elements holding values -/

/-- The elements `v` names, on device `d`, hold `X`. -/
def holds (d : Dev nD) {sp : Space} {s : Shape} {e : EltTy} (v : View sig .tc sp s e) (X : s.Idx → Elt F e) : sProp 𝕄 :=
  iprop(∃ f : Buf (Elt F) (v.loc (d : Thread nD τ)), ⌜v.read (Elt F) f = X⌝ ∗ (v.loc (d : Thread nD τ) ↦[v.set]{fullShare} f))
/-- They hold something. -/
def free (d : Dev nD) {sp : Space} {s : Shape} {e : EltTy} (v : View sig .tc sp s e) : sProp 𝕄 :=
  iprop(∃ f : Buf (Elt F) (v.loc (d : Thread nD τ)), (v.loc (d : Thread nD τ) ↦[v.set]{fullShare} f))

instance holds_storable (d : Dev nD) {sp : Space} {s : Shape} {e : EltTy} (v : View sig .tc sp s e) (X : s.Idx → Elt F e) :
    BI.Storable (upEmb : UEmb _ 𝕄) (holds d v X) := by unfold holds; infer_instance
instance free_storable (d : Dev nD) {sp : Space} {s : Shape} {e : EltTy} (v : View sig .tc sp s e) :
    BI.Storable (upEmb : UEmb _ 𝕄) (free (F := F) d v) := by unfold free; infer_instance

theorem holds_free (d : Dev nD) {sp : Space} {s : Shape} {e : EltTy} (v : View sig .tc sp s e) (X : s.Idx → Elt F e) :
    holds d v X ⊢ free d v := by
  unfold holds free
  iintro ⟨%f, -, H⟩
  iexists f; iexact H

theorem holds_write (d : Dev nD) {sp : Space} {s : Shape} {e : EltTy} (v : View sig .tc sp s e) (X : s.Idx → Elt F e)
    (f : Buf (Elt F) (v.loc (d : Thread nD τ))) :
    (v.loc (d : Thread nD τ) ↦[v.set]{fullShare} v.write (Elt F) f X Finset.univ) ⊢ holds d v X := by
  unfold holds
  iintro H
  iexists (v.write (Elt F) f X Finset.univ)
  isplitr
  · ipureintro; exact View.read_write_univ _ _
  iexact H

/-! ## The result's blocks -/

theorem mem_oRow (b : Fin 64) (i : S65536x1024.Idx) : i ∈ (oRow b).view.set ↔ (i 0).val / 1024 = b.val := by
  have hb : (oRow b).view.set = (Rect.unit (s := S65536x1024) ![1024 * b.val, 0] S1024x1024.size (oRow_inb b)).set := by
    show ((View.whole main_v1).slice _).set = _
    exact View.set_slice_whole _ _
  have h1 : (i 1).val < 1024 := (i 1).isLt
  rw [hb, Rect.mem_set_unit, Fin.forall_fin_two]
  show (1024 * b.val ≤ (i 0).val ∧ (i 0).val < 1024 * b.val + 1024) ∧ (0 ≤ (i 1).val ∧ (i 1).val < 0 + 1024) ↔ _
  omega

theorem oRow_disjoint (b b' : Fin 64) (h : b ≠ b') : Disjoint (oRow b).view.set (oRow b').view.set :=
  Finset.disjoint_left.mpr fun i hi hi' => h (Fin.ext (((mem_oRow b i).mp hi).symm.trans ((mem_oRow b' i).mp hi')))

theorem oRow_cover : (Finset.univ.biUnion fun b : Fin 64 => (oRow b).view.set) = (Finset.univ : Finset S65536x1024.Idx) := by
  refine Finset.eq_univ_iff_forall.mpr fun i => ?_
  have h : (i 0).val < 65536 := (i 0).isLt
  have h' : (i 0).val / 1024 < 64 := by omega
  have hm : i ∈ (oRow ⟨(i 0).val / 1024, h'⟩).view.set := (mem_oRow ⟨(i 0).val / 1024, h'⟩ i).mpr rfl
  exact Finset.mem_biUnion.mpr ⟨⟨(i 0).val / 1024, h'⟩, Finset.mem_univ _, hm⟩

/-- The block a device's result receives as the `j`th of its kind: its own first half (copied here, sent along `y`), its
    own second half, what came along `y`, what came along `x`. -/
def place (d : Dev nD) (p : Fin 4 × Fin 16) : Fin 64 :=
  match p.1 with
  | 0 => outB d (cp p.2.val)
  | 1 => outB d (cp (16 + p.2.val))
  | 2 => fwdB d p.2
  | 3 => fwdB (xDev d) p.2

set_option maxRecDepth 100000 in
theorem place_injective : ∀ d : Dev nD, Function.Injective (place d) := by
  have h : ∀ d : Dev nD, ∀ b : Fin 64, ∃ p, place d p = b := by decide +kernel
  intro d
  exact (Finite.injective_iff_surjective_of_equiv (finProdFinEquiv : Fin 4 × Fin 16 ≃ Fin 64)).mpr (h d)

def placeEquiv (d : Dev nD) : Fin 4 × Fin 16 ≃ Fin 64 :=
  Equiv.ofBijective (place d) ⟨place_injective d,
    (Finite.injective_iff_surjective_of_equiv (finProdFinEquiv : Fin 4 × Fin 16 ≃ Fin 64)).mp (place_injective d)⟩

end Cert.Gather

end
-- ==== Proof.Schedule.lean ====
/-
# The exchange's schedule

Every device has 65 semaphores the others (or the copies it sends) raise: the barrier, and sixteen each for "my block
has left along `y`", "a block arrived along `y`", "my forwarded block has left along `x`", "a block arrived along `x`".
Each is raised in one round. The barrier's two units carry the right to write the neighbours' landing blocks; the
others carry the block the transfer read or wrote.
-/
module

public import proofs.«01_k».proof.Proof.Blocks

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Values -/

/-- The rows of the argument copy `n` of device `d` reads; the same cast. -/
def xval (d : Dev nD) (n : Fin 32) : Vec F S1024x1024 .f32 :=
  (xRow (inB d n)).view.read (Elt F) (m ((d : Thread nD τ).loc main_arg0))
def val (d : Dev nD) (n : Fin 32) : FVec F S1024x1024 .bf16 := truncf .bf16 (xval m d n) bitsLt_bf16_f32

/-- What the `j`th block of each kind holds in the end. -/
def placeVal (d : Dev nD) (p : Fin 4 × Fin 16) : FVec F S1024x1024 .bf16 :=
  match p.1 with
  | 0 => val m d (cp p.2.val)
  | 1 => val m d (cp (16 + p.2.val))
  | 2 => val m (yDev d) (cp p.2.val)
  | 3 => val m (yDev (xDev d)) (cp p.2.val)

/-! ## Cells -/

/-- A cell's name on its device: the barrier, or semaphore `j` of array `i`. -/
abbrev CK : Type := Option (Fin 4 × Fin 16)

abbrev arr : Fin 4 → DmaSems sig S16
  | 0 => cc0_scratch4
  | 1 => cc0_scratch5
  | 2 => cc0_scratch6
  | 3 => cc0_scratch7

abbrev csem : CK → SemLoc sig
  | none => .reg barS
  | some (i, j) => .dma (sem16 (arr i) j)
abbrev cell (d : Dev nD) (k : CK) : GSem nD τ sig := ((d : Thread nD τ), csem k)

/-- Which cell a semaphore is. -/
def dec (sm : SemLoc sig) : Option CK :=
  match sm with
  | .reg s => if s = barS then some none else none
  | .dma q => if 4 ≤ q.val then
      some (some (⟨(q.val - 4) / 16 % 4, Nat.mod_lt _ (by decide)⟩, ⟨(q.val - 4) % 16, Nat.mod_lt _ (by decide)⟩)) else none

theorem dec_csem (k : CK) : dec (csem k) = some k := by
  rcases k with _ | ⟨i, j⟩
  · decide
  · revert i j; decide +kernel
theorem csem_injective : Function.Injective csem := fun a b h =>
  Option.some.inj ((dec_csem a).symm.trans ((congrArg dec h).trans (dec_csem b)))
theorem dec_low (A : DmaSems sig S2) (hA : A = cc0_scratch2 ∨ A = cc0_scratch3) (s : Fin 2) : dec (.dma (sem2 A s)) = none := by
  rcases hA with rfl | rfl <;> (revert s; decide +kernel)

/-! ## The schedule -/

/-- The right to write the sixteen blocks the neighbour along `y` will be sent, and those the one along `x` will be. -/
def barPay (d : Dev nD) (b : Bool) : sProp 𝕄 :=
  match b with
  | true => bigSep Finset.univ fun j : Fin 16 => free (F := F) (yDev d) (oRow (outB d (cp j.val))).view
  | false => bigSep Finset.univ fun j : Fin 16 => free (F := F) (xDev d) (oRow (fwdB d j)).view

/-- What a transfer's semaphore hands over. -/
def dmaPay (d : Dev nD) (i : Fin 4) (j : Fin 16) : sProp 𝕄 :=
  match i with
  | 0 => holds d (oRow (outB d (cp j.val))).view (val m d (cp j.val))
  | 1 => holds d (oRow (fwdB d j)).view (val m (yDev d) (cp j.val))
  | 2 => holds d (oRow (fwdB d j)).view (val m (yDev d) (cp j.val))
  | 3 => holds d (oRow (fwdB (xDev d) j)).view (val m (yDev (xDev d)) (cp j.val))

def dutiesOf : Option CK → Finset Bool
  | some none => Finset.univ
  | some (some _) => {false}
  | none => ∅
def amountOf : Option CK → ℕ
  | some none => 1
  | _ => N
def payOf (d : Dev nD) (b : Bool) : Option CK → sProp 𝕄
  | some none => barPay d b
  | some (some (i, j)) => dmaPay m d i j
  | none => iprop(emp)

def Rd : Rounds.Schedule (GSem nD τ sig) Bool 𝕄 where
  duties g r := if r = 0 ∧ g.1.2 = .tc then dutiesOf (dec g.2) else ∅
  unitless _ := False
  amount g _ _ := amountOf (dec g.2)
  payload g _ b := payOf m g.1.1 b (dec g.2)
  amount_pos g _ _ _ := by
    unfold amountOf
    split
    · exact Nat.one_pos
    · exact N_pos

instance barPay_storable (d : Dev nD) (b : Bool) : BI.Storable (upEmb : UEmb _ 𝕄) (barPay (F := F) d b) := by
  unfold barPay; split <;> infer_instance
instance dmaPay_storable (d : Dev nD) (i : Fin 4) (j : Fin 16) : BI.Storable (upEmb : UEmb _ 𝕄) (dmaPay m d i j) := by
  unfold dmaPay; split <;> infer_instance
instance Rd_payload_storable (g : GSem nD τ sig) (r : ℕ) (b : Bool) : BI.Storable (upEmb : UEmb _ 𝕄) ((Rd m).payload g r b) := by
  show BI.Storable upEmb (payOf m g.1.1 b (dec g.2))
  unfold payOf; split <;> infer_instance

theorem duties_bar (d : Dev nD) : (Rd m).duties (cell d none) 0 = Finset.univ := by
  dsimp only [Rd]; rw [if_pos ⟨rfl, rfl⟩, dec_csem]; rfl
theorem duties_dma (d : Dev nD) (p : Fin 4 × Fin 16) : (Rd m).duties (cell d (some p)) 0 = {false} := by
  dsimp only [Rd]; rw [if_pos ⟨rfl, rfl⟩, dec_csem]; rfl
theorem duties_later (g : GSem nD τ sig) : ∀ r, 1 ≤ r → (Rd m).duties g r = ∅ :=
  fun r hr => by dsimp only [Rd]; rw [if_neg fun h => by omega]
theorem amount_bar (d : Dev nD) (b : Bool) : (Rd m).amount (cell d none) 0 b = 1 := by
  dsimp only [Rd]; rw [dec_csem]; rfl
theorem amount_dma (d : Dev nD) (p : Fin 4 × Fin 16) (b : Bool) : (Rd m).amount (cell d (some p)) 0 b = N := by
  dsimp only [Rd]; rw [dec_csem]; rfl
theorem expect_bar (d : Dev nD) : (Rd m).expect (cell d none) 0 = 2 := by
  unfold Schedule.expect Schedule.amountOf
  rw [duties_bar, Finset.sum_congr rfl fun b _ => amount_bar m d b]; rfl
theorem expect_dma (d : Dev nD) (p : Fin 4 × Fin 16) : (Rd m).expect (cell d (some p)) 0 = N := by
  unfold Schedule.expect Schedule.amountOf; rw [duties_dma, Finset.sum_singleton, amount_dma]
theorem payload_bar (d : Dev nD) (b : Bool) : (Rd m).payload (cell d none) 0 b = barPay d b := by
  dsimp only [Rd]; rw [dec_csem]; rfl
theorem payload_dma (d : Dev nD) (i : Fin 4) (j : Fin 16) (b : Bool) : (Rd m).payload (cell d (some (i, j))) 0 b = dmaPay m d i j := by
  dsimp only [Rd]; rw [dec_csem]; rfl

theorem rest_bar (d : Dev nD) : bigSep ((Rd m).duties (cell d none) 0 \ ∅) (fun b => (Rd m).payload (cell d none) 0 b)
    = iprop(barPay d false ∗ barPay d true) := by
  rw [Finset.sdiff_empty, duties_bar, bigSep_univ_eq_bigSepL [false, true] (by decide) (by decide), bigSepL_cons_cons, bigSepL_singleton,
    payload_bar, payload_bar]
  rfl
theorem rest_dma (d : Dev nD) (i : Fin 4) (j : Fin 16) :
    bigSep ((Rd m).duties (cell d (some (i, j))) 0 \ ∅) (fun b => (Rd m).payload (cell d (some (i, j))) 0 b) = dmaPay m d i j := by
  rw [Finset.sdiff_empty, duties_dma, bigSep_singleton, payload_dma]

/-! ## Levels, and what is owed -/

def L (g : GSem nD τ sig) : Finset Unit := if g.1.2 = .tc then {()} else ∅
/-- A semaphore's rank: a wait is on one below everything still owed. -/
def rank : Option CK → ℕ
  | some none => 1
  | some (some (1, _)) => 2
  | some (some (3, _)) => 3
  | _ => 0
def lv (g : GSem nD τ sig) (_ : Unit) : ℕ := rank (dec g.2)

theorem L_of_ne (g : GSem nD τ sig) (h : g.1.2 ≠ .tc) : L g = ∅ := if_neg h
theorem L_tc (d : Dev nD) (sm : SemLoc sig) : L ((d : Thread nD τ), sm) = {()} := if_pos rfl

/-- The indices from `j` on, and those below it. -/
def from_ (j : ℕ) : Finset (Fin 16) := Finset.univ.filter fun i => j ≤ i.val
def below (j : ℕ) : Finset (Fin 16) := Finset.univ.filter fun i => i.val < j

theorem from_zero : from_ 0 = Finset.univ := Finset.filter_true_of_mem fun i _ => Nat.zero_le _
theorem from_end : from_ 16 = ∅ := Finset.filter_false_of_mem fun i _ => by have := i.isLt; omega
theorem below_zero : below 0 = ∅ := Finset.filter_false_of_mem fun i _ => by omega
theorem below_end : below 16 = Finset.univ := Finset.filter_true_of_mem fun i _ => i.isLt
theorem from_step {j : ℕ} (h : j < 16) : from_ j = insert (⟨j, h⟩ : Fin 16) (from_ (j + 1)) := by
  ext i; simp only [from_, Finset.mem_filter, Finset.mem_insert, Finset.mem_univ, true_and, Fin.ext_iff]; omega
theorem notMem_from {j : ℕ} (h : j < 16) : (⟨j, h⟩ : Fin 16) ∉ from_ (j + 1) := by
  simp only [from_, Finset.mem_filter, Finset.mem_univ, true_and]; omega
theorem below_step {j : ℕ} (h : j < 16) : below (j + 1) = insert (⟨j, h⟩ : Fin 16) (below j) := by
  ext i; simp only [below, Finset.mem_filter, Finset.mem_insert, Finset.mem_univ, true_and, Fin.ext_iff]; omega
theorem notMem_below {j : ℕ} (h : j < 16) : (⟨j, h⟩ : Fin 16) ∉ below j := by
  simp only [below, Finset.mem_filter, Finset.mem_univ, true_and]; omega

/-- What device `d` still owes its neighbours' arrival semaphores before round `j` of the first half, of the second. -/
def owedY (d : Dev nD) (j : ℕ) : CellTallies nD τ sig Unit := ∑ i ∈ from_ j, tallyAt (cell (yDev d) (some (1, i))) () N
def owedX (d : Dev nD) (j : ℕ) : CellTallies nD τ sig Unit := ∑ i ∈ from_ j, tallyAt (cell (xDev d) (some (3, i))) () N

theorem owedY_step (d : Dev nD) {j : ℕ} (h : j < 16) :
    owedY d j = owedY d (j + 1) + tallyAt (cell (yDev d) (some (1, ⟨j, h⟩))) () N := by
  unfold owedY; rw [from_step h, Finset.sum_insert (notMem_from h), add_comm]
theorem owedX_step (d : Dev nD) {j : ℕ} (h : j < 16) :
    owedX d j = owedX d (j + 1) + tallyAt (cell (xDev d) (some (3, ⟨j, h⟩))) () N := by
  unfold owedX; rw [from_step h, Finset.sum_insert (notMem_from h), add_comm]
theorem owedY_end (d : Dev nD) : owedY d 16 = 0 := by unfold owedY; rw [from_end, Finset.sum_empty]
theorem owedX_end (d : Dev nD) : owedX d 16 = 0 := by unfold owedX; rw [from_end, Finset.sum_empty]

/-- At the launch: all of it, and a unit to each neighbour's barrier. -/
def owed₁ (d : Dev nD) : CellTallies nD τ sig Unit := (owedX d 0 + owedY d 0) + tallyAt (cell (xDev d) none) () 1
def owed₀ (d : Dev nD) : CellTallies nD τ sig Unit := owed₁ d + tallyAt (cell (yDev d) none) () 1

/-- Everything in `O` is owed to a core's semaphore of rank at least `n`. -/
def Above (n : ℕ) (O : CellTallies nD τ sig Unit) : Prop := ∀ g u, 0 < O g u → g.1.2 = .tc ∧ n ≤ rank (dec g.2)

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (d : Dev nD) (k : CK) (a : ℕ) (h : n ≤ rank (some k)) : Above n (tallyAt (cell d k) () a) := fun g u hg => by
  rw [tallyAt_apply] at hg
  by_cases hk : g = cell d k ∧ u = ()
  · rw [hk.1]; exact ⟨rfl, by rw [dec_csem]; exact h⟩
  · rw [if_neg hk] at hg; exact absurd hg (Nat.lt_irrefl 0)
theorem above_sum {n : ℕ} {ι : Type} [DecidableEq ι] (S : Finset ι) (O : ι → CellTallies nD τ sig Unit) (h : ∀ i, Above n (O i)) :
    Above n (∑ i ∈ S, O i) := by
  induction S using Finset.induction_on with
  | empty => rw [Finset.sum_empty]; exact above_zero n
  | insert i S hi ih => rw [Finset.sum_insert hi]; exact above_add (h i) ih
theorem above_owedY {n : ℕ} (hn : n ≤ 2) (d : Dev nD) (j : ℕ) : Above n (owedY d j) := above_sum _ _ fun i => above_tally _ _ _ hn
theorem above_owedX {n : ℕ} (hn : n ≤ 3) (d : Dev nD) (j : ℕ) : Above n (owedX d j) := above_sum _ _ fun i => above_tally _ _ _ hn

theorem mayWait (d : Dev nD) (sm : SemLoc sig) {n : ℕ} (hn : rank (dec sm) < n) {O : CellTallies nD τ sig Unit} (hO : Above n O) :
    (levAts L lv : sProp 𝕄) ⊢ MayWait (d : Thread nD τ) sm () O :=
  MayOwe.of_cut (L := L) (lev := lv) (rank (dec sm)) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact Nat.le_refl _)
    (fun g u hg => Nat.lt_of_lt_of_le hn (hO g u hg).2)

end Cert.Gather

end
-- ==== Proof.Ops.lean ====
/-
# A rule for each step

What each operation of the kernel needs and leaves, at a symbolic block: the copies into and out of the staging slots,
the cast, the transfers to a neighbour, the waits.
-/
module

public import proofs.«01_k».proof.Proof.Schedule

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Device `d` owes `O` (whatever it has waited on). -/
def owe (d : Dev nD) (O : CellTallies nD τ sig Unit) : sProp 𝕄 := iprop(∃ W, owes (d : Thread nD τ) O W)

/-! ## Copies into a staging slot -/

/-- The half of the argument's ownership slot `s`'s copies read through. -/
def shr : Fin 2 → PosShare TreeShare
  | 0 => (fullShare : PosShare TreeShare).left
  | 1 => (fullShare : PosShare TreeShare).right
def argHalf (d : Dev nD) (s : Fin 2) : sProp 𝕄 := ((d : Thread nD τ).loc main_arg0) ↦{shr s} m ((d : Thread nD τ).loc main_arg0)

abbrev inSem (s : Fin 2) : SemLoc sig := .dma (sem2 cc0_scratch2 s)
abbrev outSem (s : Fin 2) : SemLoc sig := .dma (sem2 cc0_scratch3 s)

/-- Slot `s` of the first staging buffer free, with its half of the argument and its semaphore at zero. -/
def inIdle (d : Dev nD) (s : Fin 2) : sProp 𝕄 :=
  iprop(argHalf m d s ∗ free (F := F) d (viS s).view ∗ semVal ((d : Thread nD τ), inSem s) 0)
/-- A copy of block `b` of the argument into it under way. -/
def inBusy (d : Dev nD) (s : Fin 2) (b : Fin 32) : sProp 𝕄 :=
  iprop(Transfers.Flight EC (d : Thread nD τ) (inSem s) () NI
      iprop(holds d (viS s).view ((xRow b).view.read (Elt F) (m ((d : Thread nD τ).loc main_arg0)))
        ∗ ((xRow b).view.loc (d : Thread nD τ) ↦[(xRow b).view.set]{shr s} m ((d : Thread nD τ).loc main_arg0)))
    ∗ ((xRow b).view.loc (d : Thread nD τ) ↦[Finset.univ \ (xRow b).view.set]{shr s} m ((d : Thread nD τ).loc main_arg0)))

theorem wp_startIn (d : Dev nD) (s : Fin 2) (b : Fin 32) (off : Fin 2 → ℕ) (h) (hoff : off = ![1024 * b.val, 0])
    {α : Type} (k : KProg F α) (Q : α → sProp 𝕄) :
    inIdle m d s ⊢ iprop((inBusy m d s b -∗ WP d k Q) -∗ WP d (startIn s off h >>= fun _ => k) Q) := by
  subst hoff
  unfold startIn inIdle argHalf free inBusy
  simp only [Prog.lift, Prog.bind_op, Prog.bind_ret, Prog.pure_eq_ret]
  iintro ⟨Harg, ⟨%f, Hs⟩, Hv⟩ Hk
  ihave Ha := (pointsTo_split_subset (Finset.subset_univ (xRow b).view.set)).1 $$ Harg
  icases Ha with ⟨Hb, Hr⟩
  iapply (Transfers.wp_dmaLocal EC 𝒱₀ (d : Thread nD τ) none (src := xRow b) (dst := viS s) (q := shr s)
      (fs := m ((d : Thread nD τ).loc main_arg0)) (Sd := (viS s).view.set) (fd := f) () NI rfl NI_pos (Finset.Subset.refl _)) $$ [Hb Hs Hv]
  · isplitl [Hb]; · iexact Hb
    isplitl [Hs]; · iexact Hs
    iexact Hv
  iintro Hf
  iapply Hk
  isplitl [Hf]
  · iapply (Transfers.Flight_mono EC (d : Thread nD τ) (sep_mono_left (holds_write d (viS s).view _ f)))
    iexact Hf
  iexact Hr

theorem wp_waitIn (d : Dev nD) (s : Fin 2) (b : Fin 32) (off : Fin 2 → ℕ) (h) {O : CellTallies nD τ sig Unit} (hO : Above 1 O)
    {α : Type} (k : KProg F α) (Q : α → sProp 𝕄) :
    iprop(inBusy m d s b ∗ owe d O ∗ levAts L lv)
      ⊢ iprop(((argHalf m d s ∗ semVal ((d : Thread nD τ), inSem s) 0
            ∗ holds d (viS s).view ((xRow b).view.read (Elt F) (m ((d : Thread nD τ).loc main_arg0))) ∗ owe d O) -∗ WP d k Q)
          -∗ WP d (waitIn s off h >>= fun _ => k) Q) := by
  unfold waitIn inBusy owe argHalf
  simp only [Prog.lift, Prog.bind_op, Prog.bind_ret, Prog.pure_eq_ret]
  iintro ⟨⟨Hf, Hr⟩, ⟨%W, HO⟩, Hlev⟩ Hk
  iapply (Transfers.wp_waitLocalO EC 𝒱₀ (d : Thread nD τ) none (dstw := viS s) (O := O) (W := W) () (N := NI) rfl) $$ [Hf HO Hlev]
  · isplitl [Hf]; · iexact Hf
    isplitl [HO]; · iexact HO
    iapply (mayWait d (inSem s) (n := 1) (by rw [dec_low _ (.inl rfl) s]; decide) hO)
    iexact Hlev
  iintro ⟨⟨Hh, Hb⟩, Hv, HO⟩
  iapply Hk
  isplitl [Hb Hr]
  · iapply (pointsTo_split_subset (Finset.subset_univ (xRow b).view.set)).2
    isplitl [Hb]; · iexact Hb
    iexact Hr
  isplitl [Hv]; · iexact Hv
  isplitl [Hh]; · iexact Hh
  iexists _; iexact HO

/-! ## The cast -/

theorem read_store (s : Fin 2) (f : (viS s).view.ty.Contents (Elt F)) (g : (voS s).view.ty.Contents (Elt F)) :
    (voS s).view.read (Elt F) ((voM.access (slotR s)).write (Elt F) g (k0_pay1 (viM.view.readAt (Elt F) (slotR s).toLoadRect f)) Finset.univ)
      = truncf .bf16 ((viS s).view.read (Elt F) f) bitsLt_bf16_f32 := by
  show shapeCast S1024x1024 ((voM.access (slotR s)).read (Elt F) _) shapeCasts_S1x1024x1024_S1024x1024 = _
  rw [View.read_write_univ]
  show shapeCast S1024x1024 (shapeCast S1x1024x1024 _ _) _ = _
  rw [shapeCast_shapeCast]
  rfl

theorem wp_castSlot (d : Dev nD) (s : Fin 2) (X : Vec F S1024x1024 .f32) {α : Type} (k : KProg F α) (Q : α → sProp 𝕄) :
    iprop(holds d (viS s).view X ∗ free (F := F) d (voS s).view)
      ⊢ iprop(((free (F := F) d (viS s).view ∗ holds d (voS s).view (truncf .bf16 X bitsLt_bf16_f32)) -∗ WP d k Q)
          -∗ WP d (castSlot s >>= fun _ => k) Q) := by
  unfold castSlot holds free
  simp only [Prog.lift, Prog.bind_op, Prog.bind_ret, Prog.pure_eq_ret]
  have e1 : (viS s).view.set = (viM.access (slotR s)).set := View.set_reshape _ _
  have e2 : (voS s).view.set = (voM.access (slotR s)).set := View.set_reshape _ _
  iintro ⟨⟨%f, %hf, Hi⟩, ⟨%g, Ho⟩⟩ Hk
  iapply (wp_load 𝒱₀ (d : Thread nD τ) none Set.univ (m := viM) (S := (viS s).view.set) (by rw [e1, View.set_slice]; exact Finset.Subset.refl _)) $$ Hi
  iintro Hi
  iapply (wp_load 𝒱₀ (d : Thread nD τ) none Set.univ (m := voM) (S := (voS s).view.set) (by rw [e2, View.set_slice]; exact Finset.Subset.refl _)) $$ Ho
  iintro Ho
  iapply (wp_store 𝒱₀ (d : Thread nD τ) none Set.univ (m := voM) (r := slotR s) (Mk := Finset.univ) (S := (voS s).view.set)
    (by rw [e2]; exact Finset.Subset.refl _)) $$ Ho
  iintro Ho
  iapply Hk
  isplitl [Hi]
  · iexists f; iexact Hi
  iexists _
  isplitr
  · ipureintro; rw [← hf]; exact read_store s f g
  iexact Ho

/-! ## Copies out of a staging slot -/

/-- Slot `s` of the second staging buffer free, its semaphore at zero. -/
def outIdle (d : Dev nD) (s : Fin 2) : sProp 𝕄 :=
  iprop(free (F := F) d (voS s).view ∗ semVal ((d : Thread nD τ), outSem s) 0)
/-- A copy of it, holding `Y`, into block `b` of the result under way. -/
def outBusy (d : Dev nD) (s : Fin 2) (b : Fin 64) (Y : FVec F S1024x1024 .bf16) : sProp 𝕄 :=
  Transfers.Flight EC (d : Thread nD τ) (outSem s) () N iprop(holds d (oRow b).view Y ∗ free (F := F) d (voS s).view)

theorem wp_startOut (d : Dev nD) (s : Fin 2) (b : Fin 64) (Y : FVec F S1024x1024 .bf16) (off : Fin 2 → ℕ) (h w)
    (hoff : off = ![1024 * b.val, 0]) {α : Type} (k : KProg F α) (Q : α → sProp 𝕄) :
    iprop(holds d (voS s).view Y ∗ free (F := F) d (oRow b).view ∗ semVal ((d : Thread nD τ), outSem s) 0)
      ⊢ iprop((outBusy d s b Y -∗ WP d k Q) -∗ WP d (startOut s off h w >>= fun _ => k) Q) := by
  subst hoff
  unfold startOut outBusy
  simp only [Prog.lift, Prog.bind_op, Prog.bind_ret, Prog.pure_eq_ret]
  iintro ⟨Hs, Hb, Hv⟩ Hk
  unfold holds free
  icases Hs with ⟨%f, %hf, Hs⟩
  icases Hb with ⟨%g, Hb⟩
  subst hf
  iapply (Transfers.wp_dmaLocal EC 𝒱₀ (d : Thread nD τ) none (src := voS s) (dst := oRow b) (q := fullShare)
      (fs := f) (Sd := (oRow b).view.set) (fd := g) () N rfl N_pos (Finset.Subset.refl _)) $$ [Hb Hs Hv]
  · isplitl [Hs]; · iexact Hs
    isplitl [Hb]; · iexact Hb
    iexact Hv
  iintro Hf
  iapply Hk
  iapply (Transfers.Flight_mono EC (d : Thread nD τ) (sep_mono (holds_write d (oRow b).view _ g) (exists_intro f)))
  iexact Hf

theorem wp_waitOut (d : Dev nD) (s : Fin 2) (b : Fin 64) (Y : FVec F S1024x1024 .bf16) (off : Fin 2 → ℕ) (h w)
    {O : CellTallies nD τ sig Unit} (hO : Above 1 O) {α : Type} (k : KProg F α) (Q : α → sProp 𝕄) :
    iprop(outBusy d s b Y ∗ owe d O ∗ levAts L lv)
      ⊢ iprop(((outIdle d s ∗ holds d (oRow b).view Y ∗ owe d O) -∗ WP d k Q)
          -∗ WP d (waitOut s off h w >>= fun _ => k) Q) := by
  unfold waitOut outBusy outIdle owe
  simp only [Prog.lift, Prog.bind_op, Prog.bind_ret, Prog.pure_eq_ret]
  iintro ⟨Hf, ⟨%W, HO⟩, Hlev⟩ Hk
  iapply (Transfers.wp_waitLocalO EC 𝒱₀ (d : Thread nD τ) none (dstw := oBlk off h) (O := O) (W := W) () (N := N) rfl) $$ [Hf HO Hlev]
  · isplitl [Hf]; · iexact Hf
    isplitl [HO]; · iexact HO
    iapply (mayWait d (outSem s) (n := 1) (by rw [dec_low _ (.inr rfl) s]; decide) hO)
    iexact Hlev
  iintro ⟨⟨Hh, Hs⟩, Hv, HO⟩
  iapply Hk
  isplitl [Hs Hv]
  · isplitl [Hs]; · iexact Hs
    iexact Hv
  isplitl [Hh]; · iexact Hh
  iexists _; iexact HO

/-! ## Transfers to a neighbour -/

theorem wp_sendRows (κ₁ κ₂ : ℕ) (d n : Dev nD) (i₁ i₂ : Fin 4) (j : Fin 16) (b : Fin 64) (X : FVec F S1024x1024 .bf16)
    (off : Fin 2 → ℕ) (h w) (hoff : off = ![1024 * b.val, 0])
    (O₀ O : CellTallies nD τ sig Unit) (hO : O₀ = O + tallyAt (cell n (some (i₂, j))) () N)
    (h₁ : holds d (oRow b).view X ⊢ dmaPay m d i₁ j) (h₂ : holds n (oRow b).view X ⊢ dmaPay m n i₂ j)
    {α : Type} (k : KProg F α) (Q : α → sProp 𝕄) :
    iprop(cellInv ER (Rd m) κ₁ (cell d (some (i₁, j))) ∗ cellInv ER (Rd m) κ₂ (cell n (some (i₂, j)))
        ∗ holds d (oRow b).view X ∗ free (F := F) n (oRow b).view ∗ owe d O₀
        ∗ dutyTok ER (cell d (some (i₁, j))) 0 false ∗ reached ER (cell d (some (i₁, j))) 0
        ∗ dutyTok ER (cell n (some (i₂, j))) 0 false ∗ reached ER (cell n (some (i₂, j))) 0)
      ⊢ iprop(((cred (tallyAt (cell d (some (i₁, j))) () N) ∗ owe d O) -∗ WP d k Q)
          -∗ WP d (sendRows n (arr i₁) (arr i₂) j off h w >>= fun _ => k) Q) := by
  subst hoff
  unfold sendRows owe
  simp only [Prog.lift, Prog.bind_op, Prog.bind_ret, Prog.pure_eq_ret]
  iintro ⟨HI₁, HI₂, Hs, Hd, ⟨%W, HO⟩, Ht₁, Hr₁, Ht₂, Hr₂⟩ Hk
  unfold free
  icases Hd with ⟨%g, Hd⟩
  ihave Hs' := (show holds d (oRow b).view X ⊢ (iprop(∃ f : Buf (Elt F) ((oRow b).view.loc (d : Thread nD τ)), ⌜(oRow b).view.read (Elt F) f = X⌝
      ∗ ((oRow b).view.loc (d : Thread nD τ) ↦[(oRow b).view.set]{fullShare} f)) : sProp 𝕄) from Entails.refl _) $$ Hs
  icases Hs' with ⟨%f, %hf, Hs⟩
  iapply (Rounds.wp_send_pointsTo 𝒱₀ ER (Rd m) (d : Thread nD τ) none (c' := (n : Thread nD τ)) (κ₁ := κ₁) (κ₂ := κ₂) (src := oRow b) (dst := oRow b)
    (r₁ := 0) (r₂ := 0) (d₁ := false) (d₂ := false) (fs := f) (fd := g)
    (by rw [show (((d : Thread nD τ), SemLoc.dma (sem16 (arr i₁) j)) : GSem nD τ sig) = cell d (some (i₁, j)) from rfl, duties_dma]; exact Finset.mem_singleton_self _)
    (by rw [show (((n : Thread nD τ), SemLoc.dma (sem16 (arr i₂) j)) : GSem nD τ sig) = cell n (some (i₂, j)) from rfl, duties_dma]; exact Finset.mem_singleton_self _)
    () () N rfl (amount_dma m d (i₁, j) false) (amount_dma m n (i₂, j) false) O hO (W := W)
    ((show _ ⊢ holds d (oRow b).view X by unfold holds; iintro H; iexists f; isplitr; · (ipureintro; exact hf)
                                          iexact H).trans (h₁.trans (Entails.of_eq (payload_dma m d i₁ j false).symm)))
    ((holds_write n (oRow b).view _ g).trans (by rw [hf]; exact h₂.trans (Entails.of_eq (payload_dma m n i₂ j false).symm)))) $$ [HI₁ HI₂ Hs Hd HO Ht₁ Hr₁ Ht₂ Hr₂]
  · isplitl [HI₁]; · iexact HI₁
    isplitl [HI₂]; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hc]; · iexact Hc
  iexists W; iexact HO

/-- The wait on one of a device's transfer semaphores: its block, and the semaphore at zero, its one round over. -/
theorem wp_waitRows (κ : ℕ) (d : Dev nD) (i : Fin 4) (j : Fin 16) (off : Fin 2 → ℕ) (h w)
    {n : ℕ} (hn : rank (some (some (i, j))) < n) {O : CellTallies nD τ sig Unit} (hO : Above n O)
    {α : Type} (k : KProg F α) (Q : α → sProp 𝕄) :
    iprop(cellInv ER (Rd m) κ (cell d (some (i, j))) ∗ cred (tallyAt (cell d (some (i, j))) () N) ∗ owe d O ∗ levAts L lv
        ∗ atPos ER (cell d (some (i, j))) 0 ∅ 0)
      ⊢ iprop(((owe d O ∗ dmaPay m d i j ∗ semVal (cell d (some (i, j))) 0) -∗ WP d k Q)
          -∗ WP d (waitRows (arr i) j off h w >>= fun _ => k) Q) := by
  unfold waitRows owe
  simp only [Prog.lift, Prog.bind_op, Prog.bind_ret, Prog.pure_eq_ret]
  iintro ⟨#HI, Hc, ⟨%W, HO⟩, Hlev, Hat⟩ Hk
  iapply (Rounds.wp_wait_rest_token 𝒱₀ ER (Rd m) (d : Thread nD τ) none (κ := κ)
      (wpE_waitDma2_eq 𝒱₀ (d : Thread nD τ) none Set.univ) (Set.mem_univ _) () (O := O) (W := W) (R := 0) (m := 0) (T := ∅)
      (by rw [Nat.zero_add]; exact (expect_dma m d (i, j)).symm)) $$ [Hc HO Hlev Hat]
  · isplitr; · iexact HI
    isplitl [Hc]; · iexact Hc
    isplitl [HO]; · iexact HO
    isplitl [Hlev]
    · iapply (mayWait d (csem (some (i, j))) (n := n) (by rw [dec_csem]; exact hn) hO)
      iexact Hlev
    iexact Hat
  iintro ⟨HO, Hat, -, Hpay⟩
  ihave Hp := (Entails.of_eq (rest_dma m d i j)) $$ Hpay
  imod (Rounds.cell_close ER (Rd m) (Set.mem_univ κ) (fun h => h) (R := 0 + 1) (duties_later m (cell d (some (i, j))))) $$ [Hat] with Hz
  · isplitr; · iexact HI
    iexact Hat
  iapply Hk
  isplitl [HO]; · iexists _; iexact HO
  isplitl [Hp]; · iexact Hp
  iexact Hz

end Cert.Gather

end
-- ==== Proof.Phases.lean ====
/-
# The three sweeps of sixteen rounds

What a device holds between two rounds of each sweep, and that a round carries it to the next. A sweep's resources come
in sixteen shares, one a round: those of the rounds still to come are held as they were given, those of the rounds
over as the round left them.
-/
module

public import proofs.«01_k».proof.Proof.Ops

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Sixteen shares -/

theorem from_take (P : Fin 16 → sProp 𝕄) {j : ℕ} (h : j < 16) : bigSep (from_ j) P = iprop(P ⟨j, h⟩ ∗ bigSep (from_ (j + 1)) P) := by
  rw [from_step h]; exact bigSep_insert (notMem_from h)
theorem below_add (P : Fin 16 → sProp 𝕄) {j : ℕ} (h : j < 16) : bigSep (below (j + 1)) P = iprop(P ⟨j, h⟩ ∗ bigSep (below j) P) := by
  rw [below_step h]; exact bigSep_insert (notMem_below h)

/-- A sweep: if every round carries `I j` to `I (j + 1)`, the first `n` rounds carry `I 0` to `I n`. -/
theorem wp_rounds (d : Dev nD) (C : sProp 𝕄) [BI.Persistent C] (I : ℕ → sProp 𝕄) (f : Fin 16 → KProg F PUnit) (Q : PUnit → sProp 𝕄)
    (step : ∀ (j : ℕ) (h : j < 16) (k : KProg F PUnit),
      iprop(C ∗ I j) ⊢ iprop((I (j + 1) -∗ WP d k Q) -∗ WP d (f ⟨j, h⟩ >>= fun _ => k) Q)) :
    ∀ (n : ℕ) (h : n ≤ 16) (k : KProg F PUnit), iprop(C ∗ I 0) ⊢ iprop((I n -∗ WP d k Q) -∗ WP d (rounds f n h k) Q)
  | 0, _, k => by
    iintro ⟨-, HI⟩ Hk
    iapply Hk; iexact HI
  | n + 1, h, k => by
    iintro ⟨#HC, HI⟩ Hk
    iapply (wp_rounds d C I f Q step n (Nat.le_of_succ_le h) (f ⟨n, h⟩ >>= fun _ => k)) $$ [HI]
    · isplitr; · iexact HC
      iexact HI
    iintro HI
    iapply (step n h k) $$ [HI]
    · isplitr; · iexact HC
      iexact HI
    iexact Hk

/-! ## What every device knows throughout -/

def recs (K : Dev nD × CK → ℕ) : sProp 𝕄 :=
  bigSep Finset.univ fun p : Dev nD × CK => iprop(cellInv ER (Rd m) (K p) (cell p.1 p.2) ∗ reached ER (cell p.1 p.2) 0)
instance recs_persistent (K : Dev nD × CK → ℕ) : BI.Persistent (recs m K) := by unfold recs; infer_instance
theorem recs_at (K : Dev nD × CK → ℕ) (d : Dev nD) (k : CK) :
    recs m K ⊢ iprop(cellInv ER (Rd m) (K (d, k)) (cell d k) ∗ reached ER (cell d k) 0) := bigSep_elim (Finset.mem_univ (d, k))

def known (K : Dev nD × CK → ℕ) : sProp 𝕄 := iprop(recs m K ∗ levAts L lv)
instance known_persistent (K : Dev nD × CK → ℕ) : BI.Persistent (known m K) := by unfold known; infer_instance

/-! ## The staging slots, by the number of the copy about to use them -/

theorem slot_two (n : ℕ) : slotOf (cp (n + 2)) = slotOf (cp n) := Fin.ext (by show (n + 2) % 32 % 2 = n % 32 % 2; omega)

def inSt (d : Dev nD) (n : ℕ) : sProp 𝕄 :=
  if n < 32 then inBusy m d (slotOf (cp n)) (inB d (cp n)) else inIdle m d (slotOf (cp n))
def outSt (d : Dev nD) (n : ℕ) : sProp 𝕄 :=
  if 18 ≤ n then outBusy d (slotOf (cp n)) (outB d (cp (n - 2))) (val m d (cp (n - 2))) else outIdle d (slotOf (cp n))

variable {m} in
/-- Starting copy `n`'s read. -/
theorem wp_inStart (d : Dev nD) (n : ℕ) (hn : n < 32) {α : Type} (k : KProg F α) (Q : α → sProp 𝕄) :
    inIdle m d (slotOf (cp n)) ⊢ iprop((inSt m d n -∗ WP d k Q) -∗ WP d (inStart d (cp n) >>= fun _ => k) Q) := by
  unfold inSt; rw [if_pos hn]
  exact wp_startIn m d (slotOf (cp n)) (inB d (cp n)) _ _ (inOff_eq d (cp n)) k Q

/-- Waiting for it. -/
theorem wp_inWait (d : Dev nD) (n : ℕ) (hn : n < 32) {O : CellTallies nD τ sig Unit} (hO : Above 1 O)
    {α : Type} (k : KProg F α) (Q : α → sProp 𝕄) :
    iprop(inSt m d n ∗ owe d O ∗ levAts L lv)
      ⊢ iprop(((argHalf m d (slotOf (cp n)) ∗ semVal ((d : Thread nD τ), inSem (slotOf (cp n))) 0
            ∗ holds d (viS (slotOf (cp n))).view (xval m d (cp n)) ∗ owe d O) -∗ WP d k Q)
          -∗ WP d (inWait d (cp n) >>= fun _ => k) Q) := by
  unfold inSt; rw [if_pos hn]
  exact wp_waitIn m d (slotOf (cp n)) (inB d (cp n)) _ _ hO k Q

theorem wp_outStart (d : Dev nD) (n : ℕ) {α : Type} (k : KProg F α) (Q : α → sProp 𝕄) :
    iprop(holds d (voS (slotOf (cp n))).view (val m d (cp n)) ∗ free (F := F) d (oRow (outB d (cp n))).view
        ∗ semVal ((d : Thread nD τ), outSem (slotOf (cp n))) 0)
      ⊢ iprop((outBusy d (slotOf (cp n)) (outB d (cp n)) (val m d (cp n)) -∗ WP d k Q)
          -∗ WP d (outStart d (cp n) >>= fun _ => k) Q) :=
  wp_startOut d (slotOf (cp n)) (outB d (cp n)) _ _ _ _ (outOff_eq d (cp n)) k Q

theorem wp_outWait (d : Dev nD) (n : ℕ) {O : CellTallies nD τ sig Unit} (hO : Above 1 O) {α : Type} (k : KProg F α) (Q : α → sProp 𝕄) :
    iprop(outBusy d (slotOf (cp n)) (outB d (cp n)) (val m d (cp n)) ∗ owe d O ∗ levAts L lv)
      ⊢ iprop(((outIdle d (slotOf (cp n)) ∗ holds d (oRow (outB d (cp n))).view (val m d (cp n)) ∗ owe d O) -∗ WP d k Q)
          -∗ WP d (outWait d (cp n) >>= fun _ => k) Q) :=
  wp_waitOut d (slotOf (cp n)) (outB d (cp n)) _ _ _ _ hO k Q

/-! ## The first sweep -/

/-- The share of round `j` of the first sweep: the block it writes, here and on the neighbour along `y`; the tokens of the
    two arrivals it causes. -/
def preA (d : Dev nD) (j : Fin 16) : sProp 𝕄 :=
  iprop(free (F := F) d (oRow (outB d (cp j.val))).view ∗ free (F := F) (yDev d) (oRow (outB d (cp j.val))).view
    ∗ dutyTok ER (cell d (some (0, j))) 0 false ∗ dutyTok ER (cell (yDev d) (some (1, j))) 0 false)
def postA (d : Dev nD) (j : Fin 16) : sProp 𝕄 := cred (tallyAt (cell d (some (0, j))) () N)

def invA (d : Dev nD) (j : ℕ) : sProp 𝕄 :=
  iprop(inSt m d j ∗ inSt m d (j + 1) ∗ outSt m d j ∗ outSt m d (j + 1) ∗ bigSep (from_ j) (preA d) ∗ bigSep (below j) (postA d)
    ∗ owe d (owedX d 0 + owedY d j))

theorem stepA (K : Dev nD × CK → ℕ) (d : Dev nD) (Q : PUnit → sProp 𝕄) (j : ℕ) (h : j < 16) (k : KProg F PUnit) :
    iprop(known m K ∗ invA m d j) ⊢ iprop((invA m d (j + 1) -∗ WP d k Q) -∗ WP d (roundA d ⟨j, h⟩ >>= fun _ => k) Q) := by
  have e0 : num 0 ⟨j, h⟩ 0 = cp j := Fin.ext (by show (16 * 0 + j + 0) % 32 = j % 32; omega)
  have e2 : num 0 ⟨j, h⟩ 2 = cp (j + 2) := Fin.ext (by show (16 * 0 + j + 2) % 32 = (j + 2) % 32; omega)
  have hO : Above 1 (owedX d 0 + owedY d j) := above_add (above_owedX (by decide) d 0) (above_owedY (by decide) d j)
  unfold roundA invA
  rw [e0, e2, from_take (preA d) h, below_add (postA d) h]
  simp only [bind_assoc]
  unfold known preA postA
  iintro ⟨⟨#HR, #HL⟩, Hi, Hi', Ho, Ho', ⟨⟨Hf, Hfy, Ht0, Ht1⟩, Hpre⟩, Hpost, HO⟩ Hk
  ihave #HI₀ := (recs_at m K d (some (0, ⟨j, h⟩))) $$ HR
  ihave #HI₁ := (recs_at m K (yDev d) (some (1, ⟨j, h⟩))) $$ HR
  icases HI₀ with ⟨#HI₀, #Hr₀⟩
  icases HI₁ with ⟨#HI₁, #Hr₁⟩
  iapply (wp_inWait m d j (by omega) hO) $$ [Hi HO]
  · isplitl [Hi]; · iexact Hi
    isplitl [HO]; · iexact HO
    iexact HL
  iintro ⟨Harg, Hv, Hh, HO⟩
  ihave Ho := (Entails.of_eq (show outSt m d j = outIdle d (slotOf (cp j)) from if_neg (by omega))) $$ Ho
  unfold outIdle
  icases Ho with ⟨Hvo, Hov⟩
  iapply (wp_castSlot d (slotOf (cp j)) (xval m d (cp j))) $$ [Hh Hvo]
  · isplitl [Hh]; · iexact Hh
    iexact Hvo
  iintro ⟨Hvi, Hvo⟩
  iapply (wp_inStart (m := m) d (j + 2) (by omega)) $$ [Harg Hv Hvi]
  · rw [slot_two]
    unfold inIdle
    isplitl [Harg]; · iexact Harg
    isplitl [Hvi]; · iexact Hvi
    iexact Hv
  iintro Hi
  iapply (wp_outStart m d j) $$ [Hvo Hf Hov]
  · isplitl [Hvo]; · iexact Hvo
    isplitl [Hf]; · iexact Hf
    iexact Hov
  iintro Ho
  iapply (wp_outWait m d j hO) $$ [Ho HO]
  · isplitl [Ho]; · iexact Ho
    isplitl [HO]; · iexact HO
    iexact HL
  iintro ⟨Ho, Hh, HO⟩
  iapply (wp_sendRows m (K (d, some (0, ⟨j, h⟩))) (K (yDev d, some (1, ⟨j, h⟩))) d (yDev d) 0 1 ⟨j, h⟩ (outB d (cp j)) (val m d (cp j))
      (ownOff d ⟨j, h⟩) _ _ (ownOff_eq d ⟨j, h⟩) (owedX d 0 + owedY d j) (owedX d 0 + owedY d (j + 1))
      (by rw [owedY_step d h, add_assoc]) (Entails.refl _)
      (by show _ ⊢ holds (yDev d) (oRow (fwdB (yDev d) ⟨j, h⟩)).view (val m (yDev (yDev d)) (cp j))
          rw [← own_yDev, yDev_yDev])) $$ [Hh Hfy HO Ht0 Ht1]
  · isplitr; · iexact HI₀
    isplitr; · iexact HI₁
    isplitl [Hh]; · iexact Hh
    isplitl [Hfy]; · iexact Hfy
    isplitl [HO]; · iexact HO
    isplitl [Ht0]; · iexact Ht0
    isplitr; · iexact Hr₀
    isplitl [Ht1]; · iexact Ht1
    iexact Hr₁
  iintro ⟨Hc, HO⟩
  iapply Hk
  isplitl [Hi']; · iexact Hi'
  isplitl [Hi]; · iexact Hi
  isplitl [Ho']; · iexact Ho'
  isplitl [Ho]
  · rw [show outSt m d (j + 1 + 1) = outIdle d (slotOf (cp (j + 2))) from if_neg (by omega), slot_two]
    unfold outIdle
    iexact Ho
  isplitl [Hpre]; · iexact Hpre
  isplitl [Hc Hpost]
  · isplitl [Hc]; · iexact Hc
    iexact Hpost
  iexact HO

/-! ## The second sweep -/

/-- The share of round `j` of the second sweep: the block its copy writes; what the wait for the neighbour's block needs; the
    tokens of the two arrivals its forward causes and the block it lands in. -/
def preB (d : Dev nD) (j : Fin 16) : sProp 𝕄 :=
  iprop(free (F := F) d (oRow (outB d (cp (16 + j.val)))).view ∗ free (F := F) (xDev d) (oRow (fwdB d j)).view
    ∗ (cred (tallyAt (cell d (some (1, j))) () N) ∗ atPos ER (cell d (some (1, j))) 0 ∅ 0)
    ∗ dutyTok ER (cell d (some (2, j))) 0 false ∗ dutyTok ER (cell (xDev d) (some (3, j))) 0 false)
def postB (d : Dev nD) (j : Fin 16) : sProp 𝕄 :=
  iprop(cred (tallyAt (cell d (some (2, j))) () N) ∗ semVal (cell d (some (1, j))) 0)
/-- The block the copy of round `j` leaves. -/
def copied (d : Dev nD) (j : Fin 16) : sProp 𝕄 := holds d (oRow (outB d (cp (16 + j.val)))).view (val m d (cp (16 + j.val)))

def invB (d : Dev nD) (j : ℕ) : sProp 𝕄 :=
  iprop(inSt m d (16 + j) ∗ inSt m d (16 + j + 1) ∗ outSt m d (16 + j) ∗ outSt m d (16 + j + 1)
    ∗ bigSep (from_ j) (preB d) ∗ bigSep (below j) (postB d) ∗ bigSep (below (j - 2)) (copied m d) ∗ owe d (owedX d j))

/-- From the third round on, the copy two rounds back is waited for. -/
theorem wp_settle (d : Dev nD) (j : ℕ) (h : j < 16) {O : CellTallies nD τ sig Unit} (hO : Above 1 O)
    {α : Type} (k : KProg F α) (Q : α → sProp 𝕄) :
    iprop(outSt m d (16 + j) ∗ bigSep (below (j - 2)) (copied m d) ∗ owe d O ∗ levAts L lv)
      ⊢ iprop(((outIdle d (slotOf (cp (16 + j))) ∗ bigSep (below (j + 1 - 2)) (copied m d) ∗ owe d O) -∗ WP d k Q)
          -∗ WP d (doIf (decide (2 ≤ j)) (outWait d (num 0 ⟨j, h⟩ 14)) >>= fun _ => k) Q) := by
  by_cases h2 : 2 ≤ j
  · obtain ⟨i, rfl⟩ : ∃ i, j = i + 2 := ⟨j - 2, by omega⟩
    have e : num 0 ⟨i + 2, h⟩ 14 = cp (16 + i) := Fin.ext (by show (16 * 0 + (i + 2) + 14) % 32 = (16 + i) % 32; omega)
    rw [e, decide_eq_true h2, show i + 2 - 2 = i by omega, show i + 2 + 1 - 2 = i + 1 by omega, below_add (copied m d) (show i < 16 by omega),
      show outSt m d (16 + (i + 2)) = outBusy d (slotOf (cp (16 + i + 2))) (outB d (cp (16 + i))) (val m d (cp (16 + i))) from if_pos (by omega),
      show 16 + (i + 2) = 16 + i + 2 by omega, slot_two]
    iintro ⟨Ho, Hc, HO, HL⟩ Hk
    iapply (wp_outWait m d (16 + i) hO) $$ [Ho HO HL]
    · isplitl [Ho]; · iexact Ho
      isplitl [HO]; · iexact HO
      iexact HL
    iintro ⟨Ho, Hh, HO⟩
    iapply Hk
    isplitl [Ho]; · iexact Ho
    isplitl [Hh Hc]
    · isplitl [Hh]
      · unfold copied; iexact Hh
      iexact Hc
    iexact HO
  · rw [decide_eq_false h2, show j + 1 - 2 = j - 2 by omega, show outSt m d (16 + j) = outIdle d (slotOf (cp (16 + j))) from if_neg (by omega)]
    refine (show _ ⊢ iprop((_ -∗ WP d k Q) -∗ WP d k Q) from ?_)
    iintro ⟨Ho, Hc, HO, HL⟩ Hk
    iapply Hk
    isplitl [Ho]; · iexact Ho
    isplitl [Hc]; · iexact Hc
    iexact HO

/-- Up to the fourteenth round, the read two rounds on is started. -/
theorem wp_refill (d : Dev nD) (j : ℕ) (h : j < 16) {α : Type} (k : KProg F α) (Q : α → sProp 𝕄) :
    inIdle m d (slotOf (cp (16 + j)))
      ⊢ iprop((inSt m d (16 + (j + 1) + 1) -∗ WP d k Q) -∗ WP d (doIf (decide (j < 14)) (inStart d (num 1 ⟨j, h⟩ 2)) >>= fun _ => k) Q) := by
  have e : num 1 ⟨j, h⟩ 2 = cp (16 + j + 2) := Fin.ext (by show (16 * 1 + j + 2) % 32 = (16 + j + 2) % 32; omega)
  have e' : 16 + (j + 1) + 1 = 16 + j + 2 := by omega
  rw [e, e', ← slot_two]
  by_cases h14 : j < 14
  · rw [decide_eq_true h14]
    exact wp_inStart (m := m) d (16 + j + 2) (by omega) k Q
  · rw [decide_eq_false h14, show inSt m d (16 + j + 2) = inIdle m d (slotOf (cp (16 + j + 2))) from if_neg (by omega)]
    refine (show _ ⊢ iprop((_ -∗ WP d k Q) -∗ WP d k Q) from ?_)
    iintro Hi Hk
    iapply Hk
    iexact Hi

theorem stepB (K : Dev nD × CK → ℕ) (d : Dev nD) (Q : PUnit → sProp 𝕄) (j : ℕ) (h : j < 16) (k : KProg F PUnit) :
    iprop(known m K ∗ invB m d j) ⊢ iprop((invB m d (j + 1) -∗ WP d k Q) -∗ WP d (roundB d ⟨j, h⟩ >>= fun _ => k) Q) := by
  have e0 : num 1 ⟨j, h⟩ 0 = cp (16 + j) := Fin.ext (by show (16 * 1 + j + 0) % 32 = (16 + j) % 32; omega)
  have hO : Above 3 (owedX d j) := above_owedX (by decide) d j
  have hO' : Above 1 (owedX d j) := above_owedX (by decide) d j
  unfold roundB invB
  rw [e0, from_take (preB d) h, below_add (postB d) h]
  simp only [bind_assoc]
  unfold known preB postB
  iintro ⟨⟨#HR, #HL⟩, Hi, Hi', Ho, Ho', ⟨⟨Hf, Hfx, ⟨Hc1, Hat⟩, Ht2, Ht3⟩, Hpre⟩, Hpost, Hcp, HO⟩ Hk
  ihave #HI₁ := (recs_at m K d (some (1, ⟨j, h⟩))) $$ HR
  ihave #HI₂ := (recs_at m K d (some (2, ⟨j, h⟩))) $$ HR
  ihave #HI₃ := (recs_at m K (xDev d) (some (3, ⟨j, h⟩))) $$ HR
  icases HI₁ with ⟨#HI₁, #Hr₁⟩
  icases HI₂ with ⟨#HI₂, #Hr₂⟩
  icases HI₃ with ⟨#HI₃, #Hr₃⟩
  iapply (wp_inWait m d (16 + j) (by omega) hO') $$ [Hi HO]
  · isplitl [Hi]; · iexact Hi
    isplitl [HO]; · iexact HO
    iexact HL
  iintro ⟨Harg, Hv, Hh, HO⟩
  iapply (wp_settle m d j h hO') $$ [Ho Hcp HO]
  · isplitl [Ho]; · iexact Ho
    isplitl [Hcp]; · iexact Hcp
    isplitl [HO]; · iexact HO
    iexact HL
  iintro ⟨Ho, Hcp, HO⟩
  unfold outIdle
  icases Ho with ⟨Hvo, Hov⟩
  iapply (wp_castSlot d (slotOf (cp (16 + j))) (xval m d (cp (16 + j)))) $$ [Hh Hvo]
  · isplitl [Hh]; · iexact Hh
    iexact Hvo
  iintro ⟨Hvi, Hvo⟩
  iapply (wp_refill m d j h) $$ [Harg Hv Hvi]
  · unfold inIdle
    isplitl [Harg]; · iexact Harg
    isplitl [Hvi]; · iexact Hvi
    iexact Hv
  iintro Hi
  iapply (wp_outStart m d (16 + j)) $$ [Hvo Hf Hov]
  · isplitl [Hvo]; · iexact Hvo
    isplitl [Hf]; · iexact Hf
    iexact Hov
  iintro Ho
  iapply (wp_waitRows m (K (d, some (1, ⟨j, h⟩))) d 1 ⟨j, h⟩ (ownOff d ⟨j, h⟩) _ _ (n := 3) (by show 2 < 3; decide) hO) $$ [Hc1 HO Hat]
  · isplitr; · iexact HI₁
    isplitl [Hc1]; · iexact Hc1
    isplitl [HO]; · iexact HO
    isplitr; · iexact HL
    iexact Hat
  iintro ⟨HO, Hh, Hz⟩
  ihave Hh := (Entails.of_eq (show dmaPay m d 1 ⟨j, h⟩ = holds d (oRow (fwdB d ⟨j, h⟩)).view (val m (yDev d) (cp j)) from rfl)) $$ Hh
  iapply (wp_sendRows m (K (d, some (2, ⟨j, h⟩))) (K (xDev d, some (3, ⟨j, h⟩))) d (xDev d) 2 3 ⟨j, h⟩ (fwdB d ⟨j, h⟩) (val m (yDev d) (cp j))
      (fwdOff d ⟨j, h⟩) _ _ (fwdOff_eq d ⟨j, h⟩) _ (owedX d (j + 1)) (owedX_step d h) (Entails.refl _)
      (by show _ ⊢ holds (xDev d) (oRow (fwdB (xDev (xDev d)) ⟨j, h⟩)).view (val m (yDev (xDev (xDev d))) (cp j))
          rw [xDev_xDev])) $$ [Hh Hfx HO Ht2 Ht3]
  · isplitr; · iexact HI₂
    isplitr; · iexact HI₃
    isplitl [Hh]; · iexact Hh
    isplitl [Hfx]; · iexact Hfx
    isplitl [HO]; · iexact HO
    isplitl [Ht2]; · iexact Ht2
    isplitr; · iexact Hr₂
    isplitl [Ht3]; · iexact Ht3
    iexact Hr₃
  iintro ⟨Hc, HO⟩
  iapply Hk
  isplitl [Hi']; · iexact Hi'
  isplitl [Hi]; · iexact Hi
  isplitl [Ho']; · iexact Ho'
  isplitl [Ho]
  · rw [show outSt m d (16 + (j + 1) + 1) = outBusy d (slotOf (cp (16 + j + 2))) (outB d (cp (16 + j))) (val m d (cp (16 + j))) from if_pos (by omega), slot_two]
    iexact Ho
  isplitl [Hpre]; · iexact Hpre
  isplitl [Hc Hz Hpost]
  · isplitl [Hc Hz]
    · isplitl [Hc]; · iexact Hc
      iexact Hz
    iexact Hpost
  isplitl [Hcp]; · iexact Hcp
  iexact HO

/-! ## The third sweep -/

/-- What a wait on semaphore `j` of array `i` needs, and what it leaves. -/
def waitNeed (d : Dev nD) (i : Fin 4) (j : Fin 16) : sProp 𝕄 :=
  iprop(cred (tallyAt (cell d (some (i, j))) () N) ∗ atPos ER (cell d (some (i, j))) 0 ∅ 0)
def waitGot (d : Dev nD) (i : Fin 4) (j : Fin 16) : sProp 𝕄 :=
  iprop(dmaPay m d i j ∗ semVal (cell d (some (i, j))) 0)

def preC (d : Dev nD) (j : Fin 16) : sProp 𝕄 := iprop(waitNeed (F := F) d 0 j ∗ waitNeed (F := F) d 2 j ∗ waitNeed (F := F) d 3 j)
def postC (d : Dev nD) (j : Fin 16) : sProp 𝕄 := iprop(waitGot m d 0 j ∗ waitGot m d 2 j ∗ waitGot m d 3 j)

def invC (d : Dev nD) (j : ℕ) : sProp 𝕄 := iprop(bigSep (from_ j) (preC d) ∗ bigSep (below j) (postC m d) ∗ owe d 0)

/-- Any of the closing waits. -/
theorem wp_closing (K : Dev nD × CK → ℕ) (d : Dev nD) (i : Fin 4) (j : Fin 16) (off : Fin 2 → ℕ) (h w)
    {α : Type} (k : KProg F α) (Q : α → sProp 𝕄) :
    iprop(known m K ∗ waitNeed (F := F) d i j ∗ owe d 0)
      ⊢ iprop(((waitGot m d i j ∗ owe d 0) -∗ WP d k Q) -∗ WP d (waitRows (arr i) j off h w >>= fun _ => k) Q) := by
  unfold known waitNeed waitGot
  iintro ⟨⟨#HR, #HL⟩, ⟨Hc, Hat⟩, HO⟩ Hk
  ihave #HI := (recs_at m K d (some (i, j))) $$ HR
  icases HI with ⟨#HI, -⟩
  iapply (wp_waitRows m (K (d, some (i, j))) d i j off h w (n := 4) (by revert i j; decide) (above_zero 4)) $$ [Hc HO Hat]
  · isplitr; · iexact HI
    isplitl [Hc]; · iexact Hc
    isplitl [HO]; · iexact HO
    isplitr; · iexact HL
    iexact Hat
  iintro ⟨HO, Hp, Hz⟩
  iapply Hk
  isplitl [Hp Hz]
  · isplitl [Hp]; · iexact Hp
    iexact Hz
  iexact HO

theorem stepC (K : Dev nD × CK → ℕ) (d : Dev nD) (Q : PUnit → sProp 𝕄) (j : ℕ) (h : j < 16) (k : KProg F PUnit) :
    iprop(known m K ∗ invC m d j) ⊢ iprop((invC m d (j + 1) -∗ WP d k Q) -∗ WP d (roundC d ⟨j, h⟩ >>= fun _ => k) Q) := by
  unfold roundC invC
  rw [from_take (preC d) h, below_add (postC m d) h]
  simp only [bind_assoc]
  unfold preC postC
  iintro ⟨#HK, ⟨⟨H0, H2, H3⟩, Hpre⟩, Hpost, HO⟩ Hk
  iapply (wp_closing m K d 0 ⟨j, h⟩) $$ [H0 HO]
  · isplitr; · iexact HK
    isplitl [H0]; · iexact H0
    iexact HO
  iintro ⟨H0, HO⟩
  iapply (wp_closing m K d 2 ⟨j, h⟩) $$ [H2 HO]
  · isplitr; · iexact HK
    isplitl [H2]; · iexact H2
    iexact HO
  iintro ⟨H2, HO⟩
  iapply (wp_closing m K d 3 ⟨j, h⟩) $$ [H3 HO]
  · isplitr; · iexact HK
    isplitl [H3]; · iexact H3
    iexact HO
  iintro ⟨H3, HO⟩
  iapply Hk
  isplitl [Hpre]; · iexact Hpre
  isplitl [H0 H2 H3 Hpost]
  · isplitr [Hpost]
    · isplitl [H0]; · iexact H0
      isplitl [H2]; · iexact H2
      iexact H3
    iexact Hpost
  iexact HO

end Cert.Gather

end
-- ==== Proof.Body.lean ====
/-
# The body

From a device's share of the launch to the result's 64 blocks at their values: the handshake on the barrier, the two
reads that fill the staging slots, the three sweeps.
-/
module

public import proofs.«01_k».proof.Proof.Phases

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A kind's sixteen, together -/

def blocks (d : Dev nD) (i : Fin 4) : sProp 𝕄 := bigSep Finset.univ fun j : Fin 16 => free (F := F) d (oRow (place d (i, j))).view
def filled (d : Dev nD) (i : Fin 4) : sProp 𝕄 := bigSep Finset.univ fun j : Fin 16 => holds d (oRow (place d (i, j))).view (placeVal m d (i, j))
def tokens (d : Dev nD) (i : Fin 4) : sProp 𝕄 := bigSep Finset.univ fun j : Fin 16 => dutyTok ER (cell d (some (i, j))) 0 false
def credits (d : Dev nD) (i : Fin 4) : sProp 𝕄 := bigSep Finset.univ fun j : Fin 16 => cred (tallyAt (cell d (some (i, j))) () N)
def places (d : Dev nD) (i : Fin 4) : sProp 𝕄 := bigSep Finset.univ fun j : Fin 16 => atPos ER (cell d (some (i, j))) 0 ∅ 0
def zeros (d : Dev nD) (i : Fin 4) : sProp 𝕄 := bigSep Finset.univ fun j : Fin 16 => semVal (cell d (some (i, j))) 0

/-- What the barrier needs of a device: its position, its credit, the tokens of its two signals. -/
def handshake (d : Dev nD) : sProp 𝕄 :=
  iprop(atPos ER (cell d none) 0 ∅ 0 ∗ cred (tallyAt (cell d none) () 2)
    ∗ dutyTok ER (cell (yDev d) none) 0 true ∗ dutyTok ER (cell (xDev d) none) 0 false)
def slots (d : Dev nD) : sProp 𝕄 :=
  iprop(inIdle m d 0 ∗ inIdle m d 1 ∗ outIdle (F := F) d 0 ∗ outIdle (F := F) d 1)

def ready (d : Dev nD) : sProp 𝕄 :=
  iprop(handshake (F := F) d ∗ slots m d
    ∗ (blocks (F := F) d 0 ∗ blocks (F := F) d 1 ∗ blocks (F := F) d 2 ∗ blocks (F := F) d 3)
    ∗ (tokens (F := F) d 0 ∗ tokens (F := F) (yDev d) 1 ∗ tokens (F := F) d 2 ∗ tokens (F := F) (xDev d) 3)
    ∗ (credits (F := F) d 1 ∗ credits (F := F) d 3)
    ∗ (places (F := F) d 0 ∗ places (F := F) d 1 ∗ places (F := F) d 2 ∗ places (F := F) d 3))
def finished (d : Dev nD) : sProp 𝕄 :=
  iprop(slots m d ∗ (filled m d 0 ∗ filled m d 1 ∗ filled m d 2 ∗ filled m d 3)
    ∗ (zeros (F := F) d 0 ∗ zeros (F := F) d 1 ∗ zeros (F := F) d 2 ∗ zeros (F := F) d 3) ∗ semVal (cell d none) 0)

/-! ## The handshake -/

theorem wp_handshake (K : Dev nD × CK → ℕ) (d : Dev nD) {α : Type} (k : KProg F α) (Q : α → sProp 𝕄) :
    iprop(known m K ∗ handshake (F := F) d ∗ blocks (F := F) d 2 ∗ blocks (F := F) d 3 ∗ owe d (owed₀ d))
      ⊢ iprop(((barPay (F := F) d false ∗ barPay (F := F) d true ∗ semVal (cell d none) 0 ∗ owe d (owedX d 0 + owedY d 0)) -∗ WP d k Q)
          -∗ WP d (semSignalWord (yDev d) barS 1#32 >>= fun _ => semSignalWord (xDev d) barS 1#32 >>= fun _ =>
              semWaitWord barS 2#32 >>= fun _ => k) Q) := by
  have hy : (blocks (F := F) d 2 : sProp 𝕄) = barPay (yDev d) true := by
    unfold blocks barPay
    exact bigSep_congr fun j _ => by rw [yDev_yDev, own_yDev]; rfl
  have hx : (blocks (F := F) d 3 : sProp 𝕄) = barPay (xDev d) false := by
    unfold blocks barPay
    exact bigSep_congr fun j _ => by rw [xDev_xDev]; rfl
  have hO : Above 2 (owedX d 0 + owedY d 0) := above_add (above_owedX (by decide) d 0) (above_owedY (by decide) d 0)
  rw [hy, hx]
  simp only [semSignalWord, semWaitWord, Prog.lift, Prog.bind_op, Prog.bind_ret, Prog.pure_eq_ret]
  unfold known handshake owe
  iintro ⟨⟨#HR, #HL⟩, ⟨Hat, Hc, Hty, Htx⟩, Hby, Hbx, ⟨%W, HO⟩⟩ Hk
  ihave #HI := (recs_at m K d none) $$ HR
  ihave #HIy := (recs_at m K (yDev d) none) $$ HR
  ihave #HIx := (recs_at m K (xDev d) none) $$ HR
  icases HI with ⟨#HI, -⟩
  icases HIy with ⟨#HIy, #Hry⟩
  icases HIx with ⟨#HIx, #Hrx⟩
  iapply (Rounds.wp_signal 𝒱₀ ER (Rd m) (d : Thread nD τ) none (dst := (yDev d : Thread nD τ)) (κ := K (yDev d, none))
      (d := true) (by rw [show (((yDev d : Thread nD τ), SemLoc.reg barS) : GSem nD τ sig) = cell (yDev d) none from rfl, duties_bar]; exact Finset.mem_univ _)
      ((amount_bar m (yDev d) true).trans (by decide)) () (owed₁ d) rfl) $$ [HO Hty Hby]
  · isplitr; · iexact HIy
    isplitl [HO]; · iexact HO
    isplitl [Hty]; · iexact Hty
    isplitl [Hby]
    · iapply (Entails.of_eq (payload_bar m (yDev d) true).symm); iexact Hby
    iexact Hry
  iintro HO
  iapply (Rounds.wp_signal 𝒱₀ ER (Rd m) (d : Thread nD τ) none (dst := (xDev d : Thread nD τ)) (κ := K (xDev d, none))
      (d := false) (by rw [show (((xDev d : Thread nD τ), SemLoc.reg barS) : GSem nD τ sig) = cell (xDev d) none from rfl, duties_bar]; exact Finset.mem_univ _)
      ((amount_bar m (xDev d) false).trans (by decide)) () (owedX d 0 + owedY d 0) rfl) $$ [HO Htx Hbx]
  · isplitr; · iexact HIx
    isplitl [HO]; · iexact HO
    isplitl [Htx]; · iexact Htx
    isplitl [Hbx]
    · iapply (Entails.of_eq (payload_bar m (xDev d) false).symm); iexact Hbx
    iexact Hrx
  iintro HO
  iapply (Rounds.wp_wait_rest_token 𝒱₀ ER (Rd m) (d : Thread nD τ) none (κ := K (d, none))
      (wpE_semWait_eq 𝒱₀ (d : Thread nD τ) none Set.univ) (Set.mem_univ _) () (O := owedX d 0 + owedY d 0) (W := W) (R := 0) (m := 0) (T := ∅)
      ((show (0 + 2 : ℕ) = 2 from rfl).trans (expect_bar m d).symm)) $$ [Hc HO Hat]
  · isplitr; · iexact HI
    isplitl [Hc]; · iexact Hc
    isplitl [HO]; · iexact HO
    isplitr
    · iapply (mayWait d (csem none) (n := 2) (by rw [dec_csem]; decide) hO)
      iexact HL
    iexact Hat
  iintro ⟨HO, Hat, -, Hpay⟩
  ihave Hp := (Entails.of_eq (rest_bar m d)) $$ Hpay
  icases Hp with ⟨Hpx, Hpy⟩
  imod (Rounds.cell_close ER (Rd m) (Set.mem_univ (K (d, none))) (fun h => h) (R := 0 + 1) (duties_later m (cell d none))) $$ [Hat] with Hz
  · isplitr; · iexact HI
    iexact Hat
  iapply Hk
  isplitl [Hpx]; · iexact Hpx
  isplitl [Hpy]; · iexact Hpy
  isplitl [Hz]; · iexact Hz
  iexists _; iexact HO

/-! ## Between the sweeps -/

theorem outSt_early (d : Dev nD) (n : ℕ) (h : n < 18) : outSt m d n = outIdle d (slotOf (cp n)) := if_neg (by omega)
theorem outSt_late (d : Dev nD) (n : ℕ) (h : 18 ≤ n) :
    outSt m d n = outBusy d (slotOf (cp n)) (outB d (cp (n - 2))) (val m d (cp (n - 2))) := if_pos h
theorem inSt_late (d : Dev nD) (n : ℕ) (h : 32 ≤ n) : inSt m d n = inIdle m d (slotOf (cp n)) := if_neg (by omega)

theorem preA_all (d : Dev nD) : bigSep Finset.univ (preA (F := F) d)
    = iprop(blocks (F := F) d 0 ∗ barPay (F := F) d true ∗ tokens (F := F) d 0 ∗ tokens (F := F) (yDev d) 1) := by
  unfold preA; rw [bigSep_sep', bigSep_sep', bigSep_sep']; rfl
theorem preB_all (d : Dev nD) : bigSep Finset.univ (preB (F := F) d)
    = iprop(blocks (F := F) d 1 ∗ barPay (F := F) d false ∗ (credits (F := F) d 1 ∗ places (F := F) d 1)
        ∗ tokens (F := F) d 2 ∗ tokens (F := F) (xDev d) 3) := by
  unfold preB; rw [bigSep_sep', bigSep_sep', bigSep_sep', bigSep_sep', bigSep_sep']; rfl
theorem postB_all (d : Dev nD) : bigSep Finset.univ (postB (F := F) d) = iprop(credits (F := F) d 2 ∗ zeros (F := F) d 1) := by
  unfold postB; rw [bigSep_sep']; rfl
theorem waitNeed_all (d : Dev nD) (i : Fin 4) :
    bigSep Finset.univ (waitNeed (F := F) d i) = iprop(credits (F := F) d i ∗ places (F := F) d i) := by
  unfold waitNeed; rw [bigSep_sep']; rfl
theorem preC_all (d : Dev nD) : bigSep Finset.univ (preC (F := F) d)
    = iprop((credits (F := F) d 0 ∗ places (F := F) d 0) ∗ (credits (F := F) d 2 ∗ places (F := F) d 2)
        ∗ (credits (F := F) d 3 ∗ places (F := F) d 3)) := by
  rw [← waitNeed_all, ← waitNeed_all, ← waitNeed_all]; unfold preC; rw [bigSep_sep', bigSep_sep']
theorem postC_all (d : Dev nD) : bigSep Finset.univ (postC m d)
    = iprop((filled m d 0 ∗ zeros (F := F) d 0) ∗ (filled m d 2 ∗ zeros (F := F) d 2) ∗ (filled m d 3 ∗ zeros (F := F) d 3)) := by
  unfold postC waitGot; rw [bigSep_sep', bigSep_sep', bigSep_sep', bigSep_sep', bigSep_sep']; rfl

theorem invA_intro (d : Dev nD) :
    iprop(inSt m d 0 ∗ inSt m d 1 ∗ outIdle (F := F) d 0 ∗ outIdle (F := F) d 1
        ∗ (blocks (F := F) d 0 ∗ barPay (F := F) d true ∗ tokens (F := F) d 0 ∗ tokens (F := F) (yDev d) 1)
        ∗ owe d (owedX d 0 + owedY d 0)) ⊢ invA m d 0 := by
  unfold invA
  rw [from_zero, below_zero, bigSep_empty, preA_all, outSt_early m d 0 (by decide), outSt_early m d (0 + 1) (by decide),
    show slotOf (cp 0) = 0 from rfl, show slotOf (cp (0 + 1)) = 1 from rfl]
  iintro ⟨Hi, Hi', Ho, Ho', Hp, HO⟩
  isplitl [Hi]; · iexact Hi
  isplitl [Hi']; · iexact Hi'
  isplitl [Ho]; · iexact Ho
  isplitl [Ho']; · iexact Ho'
  isplitl [Hp]; · iexact Hp
  isplitr; · iempintro
  iexact HO

theorem invB_intro (d : Dev nD) :
    iprop(invA m d 16 ∗ blocks (F := F) d 1 ∗ barPay (F := F) d false ∗ (credits (F := F) d 1 ∗ places (F := F) d 1)
        ∗ tokens (F := F) d 2 ∗ tokens (F := F) (xDev d) 3) ⊢ iprop(invB m d 0 ∗ credits (F := F) d 0) := by
  unfold invA invB
  rw [from_zero, from_end, below_zero, below_end, bigSep_empty, bigSep_empty, bigSep_empty, preB_all, owedY_end, add_zero,
    show bigSep Finset.univ (postA (F := F) d) = credits (F := F) d 0 from rfl]
  iintro ⟨⟨Hi, Hi', Ho, Ho', -, Hc, HO⟩, Hp⟩
  isplitr [Hc]
  · isplitl [Hi]; · iexact Hi
    isplitl [Hi']; · iexact Hi'
    isplitl [Ho]; · iexact Ho
    isplitl [Ho']; · iexact Ho'
    isplitl [Hp]; · iexact Hp
    isplitr; · iempintro
    isplitr; · iempintro
    iexact HO
  iexact Hc

/-- After the second sweep: two copies out still under way. -/
theorem invB_elim (d : Dev nD) :
    invB m d 16 ⊢ iprop(inIdle m d 0 ∗ inIdle m d 1
      ∗ outBusy d (slotOf (cp 30)) (outB d (cp 30)) (val m d (cp 30)) ∗ outBusy d (slotOf (cp 31)) (outB d (cp 31)) (val m d (cp 31))
      ∗ (credits (F := F) d 2 ∗ zeros (F := F) d 1) ∗ bigSep (below 14) (copied m d) ∗ owe d 0) := by
  unfold invB
  rw [from_end, below_end, bigSep_empty, postB_all, owedX_end, inSt_late m d (16 + 16) (by decide), inSt_late m d (16 + 16 + 1) (by decide),
    outSt_late m d (16 + 16) (by decide), outSt_late m d (16 + 16 + 1) (by decide),
    show slotOf (cp (16 + 16)) = 0 from rfl, show slotOf (cp (16 + 16 + 1)) = 1 from rfl,
    show slotOf (cp 30) = 0 from rfl, show slotOf (cp 31) = 1 from rfl,
    show 16 + 16 - 2 = 30 from rfl, show 16 + 16 + 1 - 2 = 31 from rfl, show 16 - 2 = 14 from rfl]
  iintro ⟨Hi, Hi', Ho, Ho', -, Hp, Hc, HO⟩
  isplitl [Hi]; · iexact Hi
  isplitl [Hi']; · iexact Hi'
  isplitl [Ho]; · iexact Ho
  isplitl [Ho']; · iexact Ho'
  isplitl [Hp]; · iexact Hp
  isplitl [Hc]; · iexact Hc
  iexact HO

theorem invC_intro (d : Dev nD) :
    iprop(((credits (F := F) d 0 ∗ places (F := F) d 0) ∗ (credits (F := F) d 2 ∗ places (F := F) d 2)
        ∗ (credits (F := F) d 3 ∗ places (F := F) d 3)) ∗ owe d 0) ⊢ invC m d 0 := by
  unfold invC
  rw [from_zero, below_zero, bigSep_empty, preC_all]
  iintro ⟨Hp, HO⟩
  isplitl [Hp]; · iexact Hp
  isplitr; · iempintro
  iexact HO

theorem invC_elim (d : Dev nD) :
    invC m d 16 ⊢ iprop(((filled m d 0 ∗ zeros (F := F) d 0) ∗ (filled m d 2 ∗ zeros (F := F) d 2)
        ∗ (filled m d 3 ∗ zeros (F := F) d 3)) ∗ owe d 0) := by
  unfold invC
  rw [from_end, below_end, bigSep_empty, postC_all]
  iintro ⟨-, H, HO⟩
  isplitl [H]; · iexact H
  iexact HO

/-! ## The whole body -/

theorem wp_body (K : Dev nD × CK → ℕ) (d : Dev nD) (Q : PUnit → sProp 𝕄) :
    iprop(known m K ∗ ready m d ∗ owe d (owed₀ d)) ⊢ iprop(((finished m d ∗ owe d 0) -∗ Q ⟨⟩) -∗ WP d (body (F := F)) Q) := by
  unfold body ready slots
  simp only [Prog.lift, Prog.bind_op, Prog.bind_ret, Prog.pure_eq_ret, wp_deviceId]
  iintro ⟨#HK, ⟨Hhs, ⟨Hi, Hi', Ho, Ho'⟩, ⟨Hb0, Hb1, Hb2, Hb3⟩, ⟨Ht0, Ht1, Ht2, Ht3⟩, ⟨Hc1, Hc3⟩, Hp0, Hp1, Hp2, Hp3⟩, HO⟩ Hk
  iapply (wp_handshake m K d) $$ [Hhs Hb2 Hb3 HO]
  · isplitr; · iexact HK
    isplitl [Hhs]; · iexact Hhs
    isplitl [Hb2]; · iexact Hb2
    isplitl [Hb3]; · iexact Hb3
    iexact HO
  iintro ⟨Hpx, Hpy, Hz, HO⟩
  iapply (show inIdle m d 0 ⊢ _ from wp_inStart (m := m) d 0 (by decide) _ _) $$ Hi
  iintro Hi
  iapply (show inIdle m d 1 ⊢ _ from wp_inStart (m := m) d 1 (by decide) _ _) $$ Hi'
  iintro Hi'
  ihave HA := (invA_intro m d) $$ [Hi Hi' Ho Ho' Hb0 Hpy Ht0 Ht1 HO]
  · isplitl [Hi]; · iexact Hi
    isplitl [Hi']; · iexact Hi'
    isplitl [Ho]; · iexact Ho
    isplitl [Ho']; · iexact Ho'
    isplitl [Hb0 Hpy Ht0 Ht1]
    · isplitl [Hb0]; · iexact Hb0
      isplitl [Hpy]; · iexact Hpy
      isplitl [Ht0]; · iexact Ht0
      iexact Ht1
    iexact HO
  iapply (wp_rounds d (known m K) (invA m d) (roundA d) Q (stepA m K d Q) 16 (Nat.le_refl _)) $$ [HA]
  · isplitr; · iexact HK
    iexact HA
  iintro HA
  ihave HB := (invB_intro m d) $$ [HA Hb1 Hpx Hc1 Hp1 Ht2 Ht3]
  · isplitl [HA]; · iexact HA
    isplitl [Hb1]; · iexact Hb1
    isplitl [Hpx]; · iexact Hpx
    isplitl [Hc1 Hp1]
    · isplitl [Hc1]; · iexact Hc1
      iexact Hp1
    isplitl [Ht2]; · iexact Ht2
    iexact Ht3
  icases HB with ⟨HB, Hc0⟩
  iapply (wp_rounds d (known m K) (invB m d) (roundB d) Q (stepB m K d Q) 16 (Nat.le_refl _)) $$ [HB]
  · isplitr; · iexact HK
    iexact HB
  iintro HB
  ihave HB := (invB_elim m d) $$ HB
  icases HB with ⟨Hi, Hi', Ho, Ho', ⟨Hc2, Hz1⟩, Hcp, HO⟩
  unfold known
  icases HK with ⟨#HR, #HL⟩
  iapply (wp_outWait m d 30 (above_zero 1)) $$ [Ho HO]
  · isplitl [Ho]; · iexact Ho
    isplitl [HO]; · iexact HO
    iexact HL
  iintro ⟨Ho, Hh30, HO⟩
  iapply (wp_outWait m d 31 (above_zero 1)) $$ [Ho' HO]
  · isplitl [Ho']; · iexact Ho'
    isplitl [HO]; · iexact HO
    iexact HL
  iintro ⟨Ho', Hh31, HO⟩
  ihave HC := (invC_intro m d) $$ [Hc0 Hp0 Hc2 Hp2 Hc3 Hp3 HO]
  · isplitr [HO]
    · isplitl [Hc0 Hp0]
      · isplitl [Hc0]; · iexact Hc0
        iexact Hp0
      isplitl [Hc2 Hp2]
      · isplitl [Hc2]; · iexact Hc2
        iexact Hp2
      isplitl [Hc3]; · iexact Hc3
      iexact Hp3
    iexact HO
  iapply (wp_rounds d (known m K) (invC m d) (roundC d) Q (stepC m K d Q) 16 (Nat.le_refl _)) $$ [HC]
  · isplitr
    · unfold known; isplitr; · iexact HR
      iexact HL
    iexact HC
  iintro HC
  ihave HC := (invC_elim m d) $$ HC
  icases HC with ⟨⟨⟨Hf0, Hz0⟩, ⟨Hf2, Hz2⟩, Hf3, Hz3⟩, HO⟩
  iapply (show Q ⟨⟩ ⊢ WP d (Prog.ret PUnit.unit : KProg F PUnit) Q from fupd_intro)
  iapply Hk
  isplitr [HO]
  · unfold finished slots
    isplitl [Hi Hi' Ho Ho']
    · isplitl [Hi]; · iexact Hi
      isplitl [Hi']; · iexact Hi'
      isplitl [Ho]; · iexact Ho
      iexact Ho'
    isplitl [Hf0 Hf2 Hf3 Hcp Hh30 Hh31]
    · isplitl [Hf0]; · iexact Hf0
      isplitl [Hcp Hh30 Hh31]
      · iapply (show bigSep (below 16) (copied m d) ⊢ filled m d 1 by rw [below_end]; exact Entails.refl _)
        rw [below_add (copied m d) (show 15 < 16 by decide), below_add (copied m d) (show 14 < 16 by decide),
          show copied m d ⟨15, by decide⟩ = holds d (oRow (outB d (cp 31))).view (val m d (cp 31)) from rfl,
          show copied m d ⟨14, by decide⟩ = holds d (oRow (outB d (cp 30))).view (val m d (cp 30)) from rfl]
        isplitl [Hh31]; · iexact Hh31
        isplitl [Hh30]; · iexact Hh30
        iexact Hcp
      isplitl [Hf2]; · iexact Hf2
      iexact Hf3
    isplitl [Hz0 Hz1 Hz2 Hz3]
    · isplitl [Hz0]; · iexact Hz0
      isplitl [Hz1]; · iexact Hz1
      isplitl [Hz2]; · iexact Hz2
      iexact Hz3
    iexact Hz
  iexact HO

end Cert.Gather

end
-- ==== Proof.Pieces.lean ====
/-
# Memory, cut and joined

A device's buffers as the body holds them: the argument as two half-shares, the staging buffers as two slots each, the
result as its 64 blocks; and whole again afterwards.
-/
module

public import proofs.«01_k».proof.Proof.Body

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The argument -/

theorem arg_halves (d : Dev nD) :
    (((d : Thread nD τ).loc main_arg0) ↦{fullShare} m ((d : Thread nD τ).loc main_arg0) : sProp 𝕄)
      ⊣⊢ iprop(argHalf m d 0 ∗ argHalf m d 1) := pointsTo_share (PosShare.mem_left_op_right fullShare)

/-! ## A buffer cut along disjoint views that cover it -/

section Cut

variable {T : Type} [Fintype T] [DecidableEq T] {sp : Space} {s : Shape} {e : EltTy} (b : Ref sig .tc)

/-- A whole buffer is its parts. -/
theorem cut (d : Dev nD) (K : T → Finset (Idx ((d : Thread nD τ).loc b)))
    (hd : ∀ t t', t ≠ t' → Disjoint (K t) (K t')) (hc : Finset.univ.biUnion K = Finset.univ)
    (f : Buf (Elt F) ((d : Thread nD τ).loc b)) :
    (((d : Thread nD τ).loc b) ↦{fullShare} f : sProp 𝕄)
      = bigSep Finset.univ fun t => (((d : Thread nD τ).loc b) ↦[K t]{fullShare} f) := by
  rw [← pointsTo_biUnion Finset.univ K (fun t _ t' _ => hd t t'), hc]

/-- Parts, each at contents of which something is known, make a whole buffer agreeing with each. -/
theorem join (d : Dev nD) (K : T → Finset (Idx ((d : Thread nD τ).loc b)))
    (hd : ∀ t t', t ≠ t' → Disjoint (K t) (K t')) (hc : Finset.univ.biUnion K = Finset.univ)
    (f₀ : Buf (Elt F) ((d : Thread nD τ).loc b)) (P : T → Buf (Elt F) ((d : Thread nD τ).loc b) → Prop) :
    (bigSep Finset.univ fun t => iprop(∃ f : Buf (Elt F) ((d : Thread nD τ).loc b), ⌜P t f⌝ ∗ (((d : Thread nD τ).loc b) ↦[K t]{fullShare} f)) : sProp 𝕄)
      ⊢ iprop(∃ g : Buf (Elt F) ((d : Thread nD τ).loc b), ⌜∀ t, ∃ f, P t f ∧ ∀ i ∈ K t, g i = f i⌝ ∗ (((d : Thread nD τ).loc b) ↦{fullShare} g)) := by
  haveI : ∀ _ : T, Nonempty (Buf (Elt F) ((d : Thread nD τ).loc b)) := fun _ => ⟨f₀⟩
  iintro H
  ihave H := (BI.bigSep_exists_pi Finset.univ (fun (t : T) (f : Buf (Elt F) ((d : Thread nD τ).loc b)) =>
    (iprop(⌜P t f⌝ ∗ (((d : Thread nD τ).loc b) ↦[K t]{fullShare} f)) : sProp 𝕄))) $$ H
  icases H with ⟨%fs, H⟩
  ihave H := (Entails.of_eq (bigSep_sep' Finset.univ (fun t : T => (iprop(⌜P t (fs t)⌝) : sProp 𝕄))
    (fun t => (((d : Thread nD τ).loc b) ↦[K t]{fullShare} fs t)))) $$ H
  icases H with ⟨HP, H⟩
  ihave %hP := (show (bigSep Finset.univ fun t : T => (iprop(⌜P t (fs t)⌝) : sProp 𝕄)) ⊢ iprop(⌜∀ t, P t (fs t)⌝) from fun x hx t =>
    (bigSep_elim (Φ := fun t : T => (iprop(⌜P t (fs t)⌝) : sProp 𝕄)) (Finset.mem_univ t)) x hx) $$ HP
  ihave H := (pointsTo_biUnion_join Finset.univ K fs f₀ (fun t _ t' _ => hd t t')) $$ H
  icases H with ⟨%g, %hg, H⟩
  rw [hc]
  iexists g
  isplitr
  · ipureintro; exact fun t => ⟨fs t, hP t, hg t (Finset.mem_univ t)⟩
  iexact H

end Cut

/-! ## The staging buffers -/

theorem mem_slotR (s : Fin 2) (i : S2x1024x1024.Idx) : i ∈ (slotR s).set ↔ (i 0).val = s.val := by
  have h1 : (i 1).val < 1024 := (i 1).isLt
  have h2 : (i 2).val < 1024 := (i 2).isLt
  rw [Rect.mem_set_unit, Fin.forall_fin_succ, Fin.forall_fin_two]
  show (s.val ≤ (i 0).val ∧ (i 0).val < s.val + 1) ∧ (0 ≤ (i 1).val ∧ (i 1).val < 0 + 1024) ∧ (0 ≤ (i 2).val ∧ (i 2).val < 0 + 1024) ↔ _
  omega
theorem slotR_disjoint (s s' : Fin 2) (h : s ≠ s') : Disjoint (slotR s).set (slotR s').set :=
  Finset.disjoint_left.mpr fun i hi hi' => h (Fin.ext (((mem_slotR s i).mp hi).symm.trans ((mem_slotR s' i).mp hi')))
theorem slotR_cover : (Finset.univ.biUnion fun s : Fin 2 => (slotR s).set) = Finset.univ := by
  refine Finset.eq_univ_iff_forall.mpr fun i => ?_
  exact Finset.mem_biUnion.mpr ⟨⟨(i 0).val, (i 0).isLt⟩, Finset.mem_univ _, (mem_slotR _ i).mpr rfl⟩

theorem viS_set (s : Fin 2) : (viS s).view.set = (slotR s).set :=
  (View.set_reshape _ _).trans (View.set_slice_whole _ _)
theorem voS_set (s : Fin 2) : (voS s).view.set = (slotR s).set :=
  (View.set_reshape _ _).trans (View.set_slice_whole _ _)

/-- Any content at all, of parts and of the whole. -/
theorem cut_any {T : Type} [Fintype T] [DecidableEq T] (b : Ref sig .tc) (d : Dev nD) (K : T → Finset (Idx ((d : Thread nD τ).loc b)))
    (hd : ∀ t t', t ≠ t' → Disjoint (K t) (K t')) (hc : Finset.univ.biUnion K = Finset.univ) :
    (iprop(∃ f : Buf (Elt F) ((d : Thread nD τ).loc b), (((d : Thread nD τ).loc b) ↦{fullShare} f)) : sProp 𝕄)
      ⊢ bigSep Finset.univ fun t => iprop(∃ f : Buf (Elt F) ((d : Thread nD τ).loc b), (((d : Thread nD τ).loc b) ↦[K t]{fullShare} f)) := by
  have one (f : Buf (Elt F) ((d : Thread nD τ).loc b)) (t : T) : (((d : Thread nD τ).loc b) ↦[K t]{fullShare} f : sProp 𝕄)
      ⊢ iprop(∃ f : Buf (Elt F) ((d : Thread nD τ).loc b), (((d : Thread nD τ).loc b) ↦[K t]{fullShare} f)) := by
    iintro H; iexists f; iexact H
  iintro ⟨%f, H⟩
  iapply ((Entails.of_eq (cut b d K hd hc f)).trans (bigSep_mono fun t _ => one f t))
  iexact H

theorem join_any {T : Type} [Fintype T] [DecidableEq T] (t₀ : T) (b : Ref sig .tc) (d : Dev nD) (K : T → Finset (Idx ((d : Thread nD τ).loc b)))
    (hd : ∀ t t', t ≠ t' → Disjoint (K t) (K t')) (hc : Finset.univ.biUnion K = Finset.univ) :
    (bigSep Finset.univ fun t => iprop(∃ f : Buf (Elt F) ((d : Thread nD τ).loc b), (((d : Thread nD τ).loc b) ↦[K t]{fullShare} f)))
      ⊢ (iprop(∃ f : Buf (Elt F) ((d : Thread nD τ).loc b), (((d : Thread nD τ).loc b) ↦{fullShare} f)) : sProp 𝕄) := by
  haveI : ∀ _ : T, Nonempty (Buf (Elt F) ((d : Thread nD τ).loc b)) := fun _ => inferInstance
  iintro H
  ihave H := (BI.bigSep_exists_pi Finset.univ (fun (t : T) (f : Buf (Elt F) ((d : Thread nD τ).loc b)) =>
    ((((d : Thread nD τ).loc b) ↦[K t]{fullShare} f) : sProp 𝕄))) $$ H
  icases H with ⟨%fs, H⟩
  ihave H := (pointsTo_biUnion_join Finset.univ K fs (fs t₀) (fun t _ t' _ => hd t t')) $$ H
  icases H with ⟨%g, -, H⟩
  rw [hc]
  iexists g; iexact H

theorem vi_two (d : Dev nD) : (iprop(∃ f : Buf (Elt F) ((d : Thread nD τ).loc cc0_scratch0), (((d : Thread nD τ).loc cc0_scratch0) ↦{fullShare} f)) : sProp 𝕄)
    ⊣⊢ iprop(free (F := F) d (viS 0).view ∗ free (F := F) d (viS 1).view) := by
  have e : iprop(free (F := F) d (viS 0).view ∗ free (F := F) d (viS 1).view)
      = bigSep Finset.univ fun s : Fin 2 => (iprop(∃ f : Buf (Elt F) ((d : Thread nD τ).loc cc0_scratch0),
          (((d : Thread nD τ).loc cc0_scratch0) ↦[(slotR s).set]{fullShare} f)) : sProp 𝕄) := by
    rw [bigSep_fin_two, ← viS_set, ← viS_set]; rfl
  rw [e]
  exact ⟨cut_any cc0_scratch0 d (fun s => (slotR s).set) slotR_disjoint slotR_cover,
    join_any 0 cc0_scratch0 d (fun s => (slotR s).set) slotR_disjoint slotR_cover⟩
theorem vo_two (d : Dev nD) : (iprop(∃ f : Buf (Elt F) ((d : Thread nD τ).loc cc0_scratch1), (((d : Thread nD τ).loc cc0_scratch1) ↦{fullShare} f)) : sProp 𝕄)
    ⊣⊢ iprop(free (F := F) d (voS 0).view ∗ free (F := F) d (voS 1).view) := by
  have e : iprop(free (F := F) d (voS 0).view ∗ free (F := F) d (voS 1).view)
      = bigSep Finset.univ fun s : Fin 2 => (iprop(∃ f : Buf (Elt F) ((d : Thread nD τ).loc cc0_scratch1),
          (((d : Thread nD τ).loc cc0_scratch1) ↦[(slotR s).set]{fullShare} f)) : sProp 𝕄) := by
    rw [bigSep_fin_two, ← voS_set, ← voS_set]; rfl
  rw [e]
  exact ⟨cut_any cc0_scratch1 d (fun s => (slotR s).set) slotR_disjoint slotR_cover,
    join_any 0 cc0_scratch1 d (fun s => (slotR s).set) slotR_disjoint slotR_cover⟩

/-! ## The result -/

theorem place_disjoint (d : Dev nD) (p p' : Fin 4 × Fin 16) (h : p ≠ p') :
    Disjoint (oRow (place d p)).view.set (oRow (place d p')).view.set := oRow_disjoint _ _ fun e => h (place_injective d e)
theorem place_cover (d : Dev nD) : (Finset.univ.biUnion fun p : Fin 4 × Fin 16 => (oRow (place d p)).view.set) = (Finset.univ : Finset S65536x1024.Idx) := by
  refine Finset.eq_univ_iff_forall.mpr fun i => ?_
  obtain ⟨b, -, hb⟩ := Finset.mem_biUnion.mp ((Finset.eq_univ_iff_forall.mp oRow_cover) i)
  obtain ⟨p, rfl⟩ := (placeEquiv d).surjective b
  exact Finset.mem_biUnion.mpr ⟨p, Finset.mem_univ _, hb⟩

/-- The result's contents, as far as the body fixes them: every block at its value. -/
def Final (d : Dev nD) (g : Buf (Elt F) ((d : Thread nD τ).loc main_v1)) : Prop :=
  ∀ p, (oRow (place d p)).view.read (Elt F) g = placeVal m d p

theorem out_cut (d : Dev nD) : (iprop(∃ f : Buf (Elt F) ((d : Thread nD τ).loc main_v1), (((d : Thread nD τ).loc main_v1) ↦{fullShare} f)) : sProp 𝕄)
    ⊢ iprop(blocks (F := F) d 0 ∗ blocks (F := F) d 1 ∗ blocks (F := F) d 2 ∗ blocks (F := F) d 3) := by
  refine (cut_any main_v1 d (fun p : Fin 4 × Fin 16 => (oRow (place d p)).view.set) (place_disjoint d) (place_cover d)).trans ?_
  rw [bigSep_univ_prod, four]
  exact Entails.refl _

theorem out_join (d : Dev nD) : iprop(filled m d 0 ∗ filled m d 1 ∗ filled m d 2 ∗ filled m d 3)
    ⊢ (iprop(∃ g : Buf (Elt F) ((d : Thread nD τ).loc main_v1), ⌜Final m d g⌝ ∗ (((d : Thread nD τ).loc main_v1) ↦{fullShare} g)) : sProp 𝕄) := by
  have e : iprop(filled m d 0 ∗ filled m d 1 ∗ filled m d 2 ∗ filled m d 3)
      = bigSep Finset.univ fun p : Fin 4 × Fin 16 => (iprop(∃ f : Buf (Elt F) ((d : Thread nD τ).loc main_v1),
          ⌜(oRow (place d p)).view.read (Elt F) f = placeVal m d p⌝ ∗ (((d : Thread nD τ).loc main_v1) ↦[(oRow (place d p)).view.set]{fullShare} f)) : sProp 𝕄) := by
    rw [bigSep_univ_prod, four]; rfl
  rw [e]
  iintro H
  ihave H := (join main_v1 d (fun p : Fin 4 × Fin 16 => (oRow (place d p)).view.set) (place_disjoint d) (place_cover d)
    (m ((d : Thread nD τ).loc main_v1)) (fun p f => (oRow (place d p)).view.read (Elt F) f = placeVal m d p)) $$ H
  icases H with ⟨%g, %hg, H⟩
  iexists g
  isplitr
  · ipureintro
    intro p
    obtain ⟨f, hf, he⟩ := hg p
    exact (View.read_congr he).trans hf
  iexact H

end Cert.Gather

end
-- ==== Proof.Deal.lean ====
/-
# What the launch deals

The 65 cells of every device, opened together; each device's share of the tokens; the credit of what the others owe it.
-/
module

public import proofs.«01_k».proof.Proof.Pieces

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over a device's cells -/

theorem by_kind (Φ : Fin 4 × Fin 16 → sProp 𝕄) : bigSep Finset.univ Φ
    = iprop((bigSep Finset.univ fun j => Φ (0, j)) ∗ (bigSep Finset.univ fun j => Φ (1, j))
        ∗ (bigSep Finset.univ fun j => Φ (2, j)) ∗ (bigSep Finset.univ fun j => Φ (3, j))) := by
  rw [bigSep_univ_prod, four]
theorem by_cell (Φ : CK → sProp 𝕄) : bigSep Finset.univ Φ = iprop(Φ none ∗ bigSep Finset.univ fun p => Φ (some p)) := by
  have e : (Finset.univ : Finset CK) = insert none (Finset.univ.map Function.Embedding.some) := by
    ext k; rcases k with _ | p <;> simp
  rw [e, bigSep_insert (by simp), bigSep_map]; rfl

/-! ## The kernel's semaphores -/

/-- The kernel's own semaphores: two of each staging buffer, and the 64 of the transfers. -/
abbrev OS : Type := (Fin 2 ⊕ Fin 2) ⊕ (Fin 4 × Fin 16)
abbrev osem : OS → SemLoc sig
  | .inl (.inl s) => inSem s
  | .inl (.inr s) => outSem s
  | .inr p => csem (some p)

set_option maxRecDepth 100000 in
theorem ownSemFacts : Pipeline.OwnSemFacts cfg0.spec osem := by decide +kernel

/-- The staging buffers' semaphores, at zero. -/
def stageSems (d : Dev nD) : sProp 𝕄 :=
  iprop((semVal ((d : Thread nD τ), inSem 0) 0 ∗ semVal ((d : Thread nD τ), inSem 1) 0)
    ∗ (semVal ((d : Thread nD τ), outSem 0) 0 ∗ semVal ((d : Thread nD τ), outSem 1) 0))

theorem ownSems_eq (d : Dev nD) : (Pipeline.ownSems0 (Ix := Unit) (Name := ℕ) (U := UU) (Lvl := ℕ) (Val := Elt F) (τ := τ) osem d : sProp 𝕄)
    = iprop(stageSems (F := F) d ∗ bigSep Finset.univ fun p : Fin 4 × Fin 16 => semVal (cell d (some p)) 0) := by
  unfold Pipeline.ownSems0 stageSems
  rw [bigSep_univ_sum, bigSep_univ_sum, bigSep_fin_two, bigSep_fin_two]; rfl
theorem barSem_eq (d : Dev nD) : (unscopedSems0 d : sProp 𝕄) = semVal (cell d none) 0 := by
  unfold unscopedSems0; rw [bigSep_eq_bigSepL_of_eq [SemLoc.reg barS] (by decide) (by decide)]; rfl

/-! ## The cells and tokens minted -/

theorem cell_injective : Function.Injective (fun p : Dev nD × CK => cell p.1 p.2) := by
  rintro ⟨d, k⟩ ⟨d', k'⟩ h
  have h1 : d = d' := congrArg (fun g : GSem nD τ sig => g.1.1) h
  have h2 : k = k' := csem_injective (congrArg Prod.snd h)
  rw [h1, h2]
theorem cell_eq_iff {d d' : Dev nD} {k k' : CK} : cell d k = cell d' k' ↔ d = d' ∧ k = k' :=
  ⟨fun h => by have := cell_injective (a₁ := (d, k)) (a₂ := (d', k')) h; exact ⟨congrArg Prod.fst this, congrArg Prod.snd this⟩,
    fun ⟨h, h'⟩ => by rw [h, h']⟩
def cells : Finset (GSem nD τ sig) := Finset.univ.map ⟨fun p : Dev nD × CK => cell p.1 p.2, cell_injective⟩

abbrev mint : Dev nD × (Bool ⊕ Fin 4 × Fin 16) → GSem nD τ sig × ℕ × Bool
  | (d, .inl b) => (cell d none, 0, b)
  | (d, .inr p) => (cell d (some p), 0, false)
theorem mint_injective : Function.Injective mint := by
  rintro ⟨d, b | p⟩ ⟨d', b' | p'⟩ h
  · have h1 := cell_eq_iff.mp (congrArg Prod.fst h)
    have h2 : b = b' := congrArg (fun x : GSem nD τ sig × ℕ × Bool => x.2.2) h
    rw [h1.1, h2]
  · exact absurd (cell_eq_iff.mp (congrArg Prod.fst h)).2 (by simp)
  · exact absurd (cell_eq_iff.mp (congrArg Prod.fst h)).2 (by simp)
  · have h1 := cell_eq_iff.mp (congrArg Prod.fst h)
    rw [h1.1, Option.some.inj h1.2]
def minted : Finset (GSem nD τ sig × ℕ × Bool) := Finset.univ.map ⟨mint, mint_injective⟩

/-- The tokens of a device's own cells. -/
def ownToks (d : Dev nD) : sProp 𝕄 :=
  iprop((dutyTok ER (cell d none) 0 false ∗ dutyTok ER (cell d none) 0 true)
    ∗ tokens (F := F) d 0 ∗ tokens (F := F) d 1 ∗ tokens (F := F) d 2 ∗ tokens (F := F) d 3)
def marks (d : Dev nD) : sProp 𝕄 := bigSep Finset.univ fun k : CK => reached ER (cell d k) 0
def spots (d : Dev nD) : sProp 𝕄 := bigSep Finset.univ fun k : CK => atPos ER (cell d k) 0 ∅ 0
def G (d : Dev nD) : sProp 𝕄 :=
  iprop((bigSep Finset.univ fun k : CK => roundState ER (Rd m) (cell d k) 0) ∗ marks (F := F) d ∗ spots (F := F) d ∗ ownToks (F := F) d)

theorem on_cells (Φ : GSem nD τ sig → sProp 𝕄) :
    bigSep cells Φ = bigSep Finset.univ fun d : Dev nD => bigSep Finset.univ fun k : CK => Φ (cell d k) := by
  unfold cells; rw [bigSep_map, bigSep_univ_prod]; rfl
theorem on_minted : bigSep minted (fun x => (dutyTok ER x.1 x.2.1 x.2.2 : sProp 𝕄)) = bigSep Finset.univ fun d : Dev nD => ownToks (F := F) d := by
  unfold minted; rw [bigSep_map, bigSep_univ_prod]
  refine bigSep_congr fun d _ => ?_
  unfold ownToks
  rw [bigSep_univ_sum, by_kind, bigSep_univ_eq_bigSepL [false, true] (by decide) (by decide)]; rfl

theorem fund_all : BI.own (ER (initOf cells minted)) ⊢ (|==> bigSep Finset.univ (G m) : sProp 𝕄) := by
  iintro H
  imod (Rounds.fund ER (Rd m) cells minted) $$ H with ⟨Hst, Hr, Hat, Htok⟩
  imodintro
  ihave Hst := (Entails.of_eq (on_cells fun g => roundState ER (Rd m) g 0)) $$ Hst
  ihave Hr := (Entails.of_eq (on_cells fun g => reached ER g 0)) $$ Hr
  ihave Hat := (Entails.of_eq (on_cells fun g => atPos ER g 0 ∅ 0)) $$ Hat
  ihave Htok := (Entails.of_eq on_minted) $$ Htok
  unfold G; rw [bigSep_sep', bigSep_sep', bigSep_sep']
  isplitl [Hst]; · iexact Hst
  isplitl [Hr]; · iexact Hr
  isplitl [Hat]; · iexact Hat
  iexact Htok

/-! ## The cells opened -/

/-- A device's cells open, each under some name, and what it holds besides. -/
def opened (d : Dev nD) : sProp 𝕄 :=
  iprop((bigSep Finset.univ fun k : CK => iprop(∃ κ : ℕ, cellInv ER (Rd m) κ (cell d k)))
    ∗ marks (F := F) d ∗ stageSems (F := F) d ∗ spots (F := F) d ∗ ownToks (F := F) d)

theorem open_cells (d : Dev nD) :
    iprop((bigSep Finset.univ fun k : CK => semVal (cell d k) 0) ∗ bigSep Finset.univ fun k : CK => roundState ER (Rd m) (cell d k) 0)
      ⊢ (|={Set.univ}=> bigSep Finset.univ fun k : CK => iprop(∃ κ : ℕ, cellInv ER (Rd m) κ (cell d k)) : sProp 𝕄) := by
  rw [← bigSep_sep']
  exact (bigSep_mono fun k _ => (Rounds.body_intro ER (Rd m) (cell d k)).trans inv_alloc).trans (bigSep_fupd _ _)

theorem open_device (d : Dev nD) :
    iprop(Pipeline.ownSems0 (Ix := Unit) (Name := ℕ) (U := UU) (Lvl := ℕ) (Val := Elt F) (τ := τ) osem d ∗ unscopedSems0 d ∗ G m d)
      ⊢ |={Set.univ}=> opened m d := by
  unfold G opened
  rw [ownSems_eq, barSem_eq]
  iintro ⟨⟨Hs, Hv⟩, Hb, Hst, Hr, Hat, Htok⟩
  imod (open_cells m d) $$ [Hb Hv Hst] with Hi
  · rw [by_cell (fun k : CK => (semVal (cell d k) 0 : sProp 𝕄))]
    isplitl [Hb Hv]
    · isplitl [Hb]; · iexact Hb
      iexact Hv
    iexact Hst
  imodintro
  isplitl [Hi]; · iexact Hi
  isplitl [Hr]; · iexact Hr
  isplitl [Hs]; · iexact Hs
  isplitl [Hat]; · iexact Hat
  iexact Htok

/-! ## The tokens dealt to who pays -/

def yEquiv : Dev nD ≃ Dev nD := ⟨yDev, yDev, yDev_yDev, yDev_yDev⟩
def xEquiv : Dev nD ≃ Dev nD := ⟨xDev, xDev, xDev_xDev, xDev_xDev⟩

/-- The tokens a device pays with. -/
def payToks (d : Dev nD) : sProp 𝕄 :=
  iprop((dutyTok ER (cell (yDev d) none) 0 true ∗ dutyTok ER (cell (xDev d) none) 0 false)
    ∗ tokens (F := F) d 0 ∗ tokens (F := F) (yDev d) 1 ∗ tokens (F := F) d 2 ∗ tokens (F := F) (xDev d) 3)

theorem pass_toks : (bigSep Finset.univ fun d : Dev nD => (ownToks (F := F) d : sProp 𝕄)) ⊢ bigSep Finset.univ fun d : Dev nD => payToks (F := F) d := by
  unfold ownToks payToks
  simp only [bigSep_sep']
  rw [bigSep_univ_equiv yEquiv (fun d : Dev nD => (dutyTok ER (cell d none) 0 true : sProp 𝕄)),
    bigSep_univ_equiv xEquiv (fun d : Dev nD => (dutyTok ER (cell d none) 0 false : sProp 𝕄)),
    bigSep_univ_equiv yEquiv (fun d : Dev nD => (tokens (F := F) d 1 : sProp 𝕄)),
    bigSep_univ_equiv xEquiv (fun d : Dev nD => (tokens (F := F) d 3 : sProp 𝕄))]
  iintro ⟨⟨Hx, Hy⟩, H0, H1, H2, H3⟩
  isplitl [Hx Hy]
  · isplitl [Hy]; · iexact Hy
    iexact Hx
  isplitl [H0]; · iexact H0
  isplitl [H1]; · iexact H1
  isplitl [H2]; · iexact H2
  iexact H3

/-- A device's own share. -/
def share (d : Dev nD) : sProp 𝕄 := iprop(stageSems (F := F) d ∗ spots (F := F) d ∗ payToks (F := F) d)
/-- With what all know. -/
def G' (d : Dev nD) : sProp 𝕄 := iprop(∃ K, recs m K ∗ share (F := F) d)

theorem one_share (K : Dev nD × CK → ℕ) (d : Dev nD) : iprop(recs m K ∗ share (F := F) d) ⊢ G' m d := by
  unfold G'
  iintro H
  iexists K; iexact H

theorem all_open : bigSep Finset.univ (opened m) ⊢ bigSep Finset.univ (G' m) := by
  unfold opened
  rw [bigSep_sep', bigSep_sep', bigSep_sep', bigSep_sep',
    ← bigSep_univ_prod (fun p : Dev nD × CK => iprop(∃ κ : ℕ, cellInv ER (Rd m) κ (cell p.1 p.2)))]
  iintro ⟨HI, HR, Hs, Hat, Htok⟩
  ihave HI := (BI.bigSep_exists_pi Finset.univ (fun (p : Dev nD × CK) (κ : ℕ) => (cellInv ER (Rd m) κ (cell p.1 p.2) : sProp 𝕄))) $$ HI
  icases HI with ⟨%K, HI⟩
  ihave Htok := (pass_toks (F := F)) $$ Htok
  have hR : iprop((bigSep Finset.univ fun p : Dev nD × CK => cellInv ER (Rd m) (K p) (cell p.1 p.2)) ∗ bigSep Finset.univ (marks (F := F)))
      ⊢ bigSep Finset.univ fun _ : Dev nD => recs m K := by
    refine Entails.trans (Entails.of_eq ?_) (BI.bigSep_of_persistent Finset.univ (recs m K))
    unfold recs marks
    rw [bigSep_sep', ← bigSep_univ_prod (fun p : Dev nD × CK => (reached ER (cell p.1 p.2) 0 : sProp 𝕄))]
  have hS : iprop((bigSep Finset.univ fun _ : Dev nD => recs m K) ∗ bigSep Finset.univ (stageSems (F := F)) ∗ bigSep Finset.univ (spots (F := F))
      ∗ bigSep Finset.univ (payToks (F := F))) ⊢ bigSep Finset.univ (G' m) := by
    rw [← bigSep_sep', ← bigSep_sep', ← bigSep_sep']
    exact bigSep_mono fun d _ => one_share m K d
  iapply hS
  isplitl [HI HR]
  · iapply hR
    isplitl [HI]; · iexact HI
    iexact HR
  isplitl [Hs]; · iexact Hs
  isplitl [Hat]; · iexact Hat
  iexact Htok

theorem glob : (bigSep Finset.univ fun d => iprop(Pipeline.ownSems0 (Ix := Unit) (Name := ℕ) (U := UU) (Lvl := ℕ) (Val := Elt F) (τ := τ) osem d
      ∗ unscopedSems0 d ∗ G m d) : sProp 𝕄) ⊢ |={Set.univ}=> bigSep Finset.univ (G' m) :=
  ((bigSep_mono fun d _ => open_device m d).trans (bigSep_fupd _ _)).trans (BI.fupd_mono (all_open m))

theorem spots_eq (d : Dev nD) : (spots (F := F) d : sProp 𝕄)
    = iprop(atPos ER (cell d none) 0 ∅ 0 ∗ places (F := F) d 0 ∗ places (F := F) d 1 ∗ places (F := F) d 2 ∗ places (F := F) d 3) := by
  unfold spots; rw [by_cell, by_kind]; rfl

/-! ## The credit of what is owed -/

/-- One debt, per device to its neighbour, summed at one device's cell. -/
theorem debt_sum (e : Dev nD ≃ Dev nD) (k k' : CK) (a : ℕ) (d : Dev nD) :
    (∑ c : Dev nD, (tallyAt (cell (e c) k) () a : CellTallies nD τ sig Unit) (cell d k') ()) = if k = k' then a else 0 := by
  rw [Finset.sum_congr rfl fun c _ => show (tallyAt (cell (e c) k) () a : CellTallies nD τ sig Unit) (cell d k') ()
      = if c = e.symm d then (if k = k' then a else 0) else 0 from ?_,
    Finset.sum_ite_eq' Finset.univ (e.symm d) fun _ => if k = k' then a else 0, if_pos (Finset.mem_univ _)]
  rw [tallyAt_apply]
  by_cases hc : c = e.symm d
  · subst hc
    rw [if_pos rfl]
    by_cases hk : k = k'
    · subst hk; rw [if_pos rfl, e.apply_symm_apply, if_pos ⟨rfl, rfl⟩]
    · rw [if_neg hk, if_neg fun h => hk (cell_eq_iff.mp h.1).2.symm]
  · rw [if_neg hc, if_neg fun h => hc (by rw [(cell_eq_iff.mp h.1).1, e.symm_apply_apply])]

theorem debts_sum (e : Dev nD ≃ Dev nD) (i : Fin 4) (k' : CK) (d : Dev nD) :
    (∑ c : Dev nD, (∑ j ∈ from_ 0, (tallyAt (cell (e c) (some (i, j))) () N : CellTallies nD τ sig Unit)) (cell d k') ())
      = ∑ j : Fin 16, if some (i, j) = k' then N else 0 := by
  rw [from_zero, Finset.sum_congr rfl fun c _ => by rw [Finset.sum_apply, Finsupp.finset_sum_apply], Finset.sum_comm]
  exact Finset.sum_congr rfl fun j _ => debt_sum e (some (i, j)) k' N d

theorem owed_sum (d : Dev nD) (k : CK) : (∑ c : Dev nD, owed₀ c (cell d k) ())
    = (((∑ j : Fin 16, if some (3, j) = k then N else 0) + ∑ j : Fin 16, if some (1, j) = k then N else 0)
        + (if none = k then 1 else 0)) + (if none = k then 1 else 0) := by
  have h : ∀ c : Dev nD, owed₀ c (cell d k) () = ((owedX c 0 (cell d k) () + owedY c 0 (cell d k) ())
      + (tallyAt (cell (xDev c) none) () 1 : CellTallies nD τ sig Unit) (cell d k) ())
      + (tallyAt (cell (yDev c) none) () 1 : CellTallies nD τ sig Unit) (cell d k) () := fun c => rfl
  rw [Finset.sum_congr rfl fun c _ => h c, Finset.sum_add_distrib, Finset.sum_add_distrib, Finset.sum_add_distrib]
  exact congrArg₂ (· + ·) (congrArg₂ (· + ·) (congrArg₂ (· + ·) (debts_sum xEquiv 3 k d) (debts_sum yEquiv 1 k d))
    (debt_sum xEquiv none k 1 d)) (debt_sum yEquiv none k 1 d)

/-- What all the devices together owe a cell at the launch. -/
def total : CK → ℕ
  | none => 2
  | some (1, _) => N
  | some (3, _) => N
  | _ => 0

theorem pick (i i' : Fin 4) (j : Fin 16) :
    (∑ j' : Fin 16, if (some (i, j') : CK) = some (i', j) then N else 0) = if i = i' then N else 0 := by
  by_cases h : i = i'
  · subst h
    rw [if_pos rfl, Finset.sum_congr rfl fun j' _ => show (if (some (i, j') : CK) = some (i, j) then N else 0) = if j' = j then N else 0 from
      if_congr (by simp) rfl rfl, Finset.sum_ite_eq' Finset.univ j fun _ => N, if_pos (Finset.mem_univ _)]
  · rw [if_neg h]
    exact Finset.sum_eq_zero fun j' _ => if_neg fun e => h (congrArg Prod.fst (Option.some.inj e))

theorem owed_total (d : Dev nD) (k : CK) : (∑ c : Dev nD, owed₀ c (cell d k) ()) = total k := by
  rw [owed_sum]
  rcases k with _ | ⟨i, j⟩
  · rw [Finset.sum_eq_zero fun j _ => if_neg (Option.some_ne_none _), Finset.sum_eq_zero fun j _ => if_neg (Option.some_ne_none _), if_pos rfl]; rfl
  · rw [pick, pick, if_neg (show ¬(none : CK) = some (i, j) from fun h => Option.some_ne_none _ h.symm)]
    fin_cases i <;> simp [total]

theorem launch_at (d : Dev nD) (k : CK) :
    tallyOn (cell d k) (launchCredit (Pipeline.owing owed₀) 0 (cell d k)) = (tallyAt (cell d k) () (total k) : CellTallies nD τ sig Unit) := by
  unfold tallyAt; refine congrArg _ (Finsupp.ext fun u => ?_); cases u
  rw [Pipeline.launchCredit_owing, Finsupp.single_eq_same, owed_total]

theorem creds (d : Dev nD) :
    (Pipeline.launchCred owed₀ d : sProp 𝕄) ⊢ iprop(cred (tallyAt (cell d none) () 2) ∗ credits (F := F) d 1 ∗ credits (F := F) d 3) := by
  unfold Pipeline.launchCred
  refine (bigSep_subset (Finset.subset_univ (Finset.univ.map ⟨csem, csem_injective⟩))).trans ?_
  have e : (bigSep (Finset.univ.map ⟨csem, csem_injective⟩) fun sm : SemLoc sig =>
        (cred (tallyOn ((d : Thread nD τ), sm) (launchCredit (Pipeline.owing owed₀) 0 ((d : Thread nD τ), sm))) : sProp 𝕄))
      = bigSep Finset.univ fun k : CK => cred (tallyAt (cell d k) () (total k)) := by
    rw [bigSep_map]; exact bigSep_congr fun k _ => congrArg cred (launch_at d k)
  rw [e, by_cell, by_kind]
  refine (show (iprop(cred (tallyAt (cell d none) () 2) ∗ (bigSep Finset.univ fun j : Fin 16 => cred (tallyAt (cell d (some (0, j))) () 0))
    ∗ credits (F := F) d 1 ∗ (bigSep Finset.univ fun j : Fin 16 => cred (tallyAt (cell d (some (2, j))) () 0)) ∗ credits (F := F) d 3) : sProp 𝕄) ⊢ _ from ?_)
  iintro ⟨Hb, -, H1, -, H3⟩
  isplitl [Hb]; · iexact Hb
  isplitl [H1]; · iexact H1
  iexact H3

end Cert.Gather

end
-- ==== Proof.Run.lean ====
/-
# The run

Every fair execution ends, with the argument as it was, every block of every device's result at its value and every
semaphore at zero.
-/
module

public import proofs.«01_k».proof.Proof.Same
public import proofs.«01_k».proof.Proof.Deal
public import Idealize.ShloMosaic.Lib.Quiescent
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## From the launch to the body, and back -/

def someIn (d : Dev nD) : sProp 𝕄 :=
  iprop(∃ f : Buf (Elt F) ((d : Thread nD τ).loc cc0_scratch0), (((d : Thread nD τ).loc cc0_scratch0) ↦{fullShare} f))
def someOut (d : Dev nD) : sProp 𝕄 :=
  iprop(∃ f : Buf (Elt F) ((d : Thread nD τ).loc cc0_scratch1), (((d : Thread nD τ).loc cc0_scratch1) ↦{fullShare} f))

/-- What a device brings to its body, the staging buffers apart. -/
def brings (d : Dev nD) : sProp 𝕄 :=
  iprop((∃ K, known m K) ∗ share (F := F) d ∗ (cred (tallyAt (cell d none) () 2) ∗ credits (F := F) d 1 ∗ credits (F := F) d 3)
    ∗ (((d : Thread nD τ).loc main_arg0) ↦{fullShare} m ((d : Thread nD τ).loc main_arg0))
    ∗ (((d : Thread nD τ).loc main_v1) ↦{fullShare} m ((d : Thread nD τ).loc main_v1)))
/-- What it leaves of its unscoped buffers and semaphore. -/
def leaves (d : Dev nD) : sProp 𝕄 :=
  iprop((((d : Thread nD τ).loc main_arg0) ↦{fullShare} m ((d : Thread nD τ).loc main_arg0))
    ∗ (∃ g : Buf (Elt F) ((d : Thread nD τ).loc main_v1), ⌜Final m d g⌝ ∗ (((d : Thread nD τ).loc main_v1) ↦{fullShare} g))
    ∗ unscopedSems0 d)

theorem ready_intro (d : Dev nD) :
    iprop(brings m d ∗ someIn (F := F) d ∗ someOut (F := F) d) ⊢ iprop((∃ K, known m K) ∗ ready m d) := by
  unfold brings someIn someOut share ready handshake slots payToks stageSems inIdle outIdle
  rw [spots_eq]
  iintro ⟨⟨HK, ⟨⟨⟨Hi0, Hi1⟩, Ho0, Ho1⟩, ⟨Hb, Hp⟩, ⟨Hty, Htx⟩, Ht⟩, ⟨Hcb, Hc⟩, Hx, Hv⟩, Hs0, Hs1⟩
  ihave Hx := (arg_halves m d).1 $$ Hx
  ihave Hs0 := (vi_two d).1 $$ Hs0
  ihave Hs1 := (vo_two d).1 $$ Hs1
  icases Hx with ⟨Hx0, Hx1⟩
  icases Hs0 with ⟨Hs00, Hs01⟩
  icases Hs1 with ⟨Hs10, Hs11⟩
  ihave Hv := (out_cut d) $$ [Hv]
  · iexists _; iexact Hv
  isplitl [HK]; · iexact HK
  isplitl [Hb Hcb Hty Htx]
  · isplitl [Hb]; · iexact Hb
    isplitl [Hcb]; · iexact Hcb
    isplitl [Hty]; · iexact Hty
    iexact Htx
  isplitl [Hx0 Hx1 Hs00 Hs01 Hs10 Hs11 Hi0 Hi1 Ho0 Ho1]
  · isplitl [Hx0 Hs00 Hi0]
    · isplitl [Hx0]; · iexact Hx0
      isplitl [Hs00]; · iexact Hs00
      iexact Hi0
    isplitl [Hx1 Hs01 Hi1]
    · isplitl [Hx1]; · iexact Hx1
      isplitl [Hs01]; · iexact Hs01
      iexact Hi1
    isplitl [Hs10 Ho0]
    · isplitl [Hs10]; · iexact Hs10
      iexact Ho0
    isplitl [Hs11]; · iexact Hs11
    iexact Ho1
  isplitl [Hv]; · iexact Hv
  isplitl [Ht]; · iexact Ht
  isplitl [Hc]; · iexact Hc
  iexact Hp

theorem finished_elim (d : Dev nD) : finished m d
    ⊢ iprop(leaves m d ∗ Pipeline.ownSems0 (Ix := Unit) (Name := ℕ) (U := UU) (Lvl := ℕ) (Val := Elt F) (τ := τ) osem d
        ∗ someIn (F := F) d ∗ someOut (F := F) d) := by
  unfold finished leaves someIn someOut slots inIdle outIdle
  rw [ownSems_eq, barSem_eq, by_kind]
  unfold stageSems
  iintro ⟨⟨⟨Hx0, Hs00, Hi0⟩, ⟨Hx1, Hs01, Hi1⟩, ⟨Hs10, Ho0⟩, Hs11, Ho1⟩, Hf, Hz, Hb⟩
  isplitl [Hx0 Hx1 Hf Hb]
  · isplitl [Hx0 Hx1]
    · iapply (arg_halves m d).2
      isplitl [Hx0]; · iexact Hx0
      iexact Hx1
    isplitl [Hf]
    · iapply (out_join m d); iexact Hf
    iexact Hb
  isplitl [Hi0 Hi1 Ho0 Ho1 Hz]
  · isplitl [Hi0 Hi1 Ho0 Ho1]
    · isplitl [Hi0 Hi1]
      · isplitl [Hi0]; · iexact Hi0
        iexact Hi1
      isplitl [Ho0]; · iexact Ho0
      iexact Ho1
    iapply (show iprop(zeros (F := F) d 0 ∗ zeros (F := F) d 1 ∗ zeros (F := F) d 2 ∗ zeros (F := F) d 3) ⊢ _ from Entails.refl _)
    iexact Hz
  isplitl [Hs00 Hs01]
  · iapply (vi_two d).2
    isplitl [Hs00]; · iexact Hs00
    iexact Hs01
  iapply (vo_two d).2
  isplitl [Hs10]; · iexact Hs10
  iexact Hs11

/-! ## The kernel's one point -/

def before (d : Dev nD) : sProp 𝕄 := iprop(brings m d ∗ someIn (F := F) d ∗ someOut (F := F) d)

def dats (_ : Fin 1) (d : Dev nD) : Dat τ (Elt F) Unit ℕ UU ℕ cfg0 d where
  A w := w.elim0
  after w _ := w.elim0
  Φ t := match t with
    | ⟨0, _⟩ => before m d
    | ⟨_ + 1, _⟩ => finished m d
  q _ := fullShare
  owed t := match t with
    | ⟨0, _⟩ => owed₀ d
    | ⟨_ + 1, _⟩ => 0

theorem no_window (Ψ : Fin cfg0.W → sProp 𝕄) : bigSep Finset.univ Ψ = iprop(emp) := by
  rw [show (Finset.univ : Finset (Fin cfg0.W)) = ∅ from rfl]; exact bigSep_empty

theorem owed_before (d : Dev nD) : (dats m 0 d).owesAt () t0_0.castSucc ⊢ owe d (owed₀ d) := by
  unfold Dat.owesAt Pipeline.owesWithin owe
  rw [show (dats m 0 d).owed t0_0.castSucc = owed₀ d from rfl]
  iintro ⟨%W, -, HO⟩
  iexists W; iexact HO
theorem owed_after (d : Dev nD) : owe (F := F) d 0 ⊢ (dats m 0 d).owesAt () t0_0.succ := by
  unfold Dat.owesAt Pipeline.owesWithin owe
  rw [show (dats m 0 d).owed t0_0.succ = 0 from rfl]
  iintro ⟨%W, HO⟩
  iexists W
  isplitr; · ipureintro; exact fun _ _ => Or.inl trivial
  iexact HO

set_option maxRecDepth 100000 in
theorem one_point (d : Dev nD) : BodyObligation (dats m 0 d) (defs₀ (F := F)) 𝒱₀ () Set.univ := fun t => by
  rw [fin_N0 t, no_window, no_window]
  show iprop(before m d ∗ (dats m 0 d).owesAt () t0_0.castSucc ∗ emp)
    ⊢ WP d (bodyAt0 (F := F) t0_0) fun _ => iprop(finished m d ∗ (dats m 0 d).owesAt () t0_0.succ ∗ emp)
  rw [body_eq]
  unfold before
  iintro ⟨HΦ, HO, -⟩
  ihave HO := (owed_before m d) $$ HO
  ihave H := (ready_intro m d) $$ HΦ
  icases H with ⟨⟨%K, HK⟩, Hr⟩
  iapply (wp_body m K d) $$ [HK Hr HO]
  · isplitl [HK]; · iexact HK
    isplitl [Hr]; · iexact Hr
    iexact HO
  iintro ⟨Hf, HO⟩
  isplitl [Hf]; · iexact Hf
  isplitl [HO]; · iapply (owed_after m d); iexact HO
  iempintro

/-! ## The launch's conditions -/

def u₀ : UU := (initOf (Pipeline.cells cfgs cellOf_inj) (Pipeline.launchToks cfgs cellOf_inj), (initOf cells minted, 1))

theorem ownU_parts (a : UR sig nD τ) (b : UB) :
    (ownU ((a, (b, 1)) : UU) : sProp 𝕄) ⊢ iprop(BI.own (EP (F := F) a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem brings_intro (d : Dev nD) :
    iprop(Pipeline.unscopedRestP Pipeline.Prefetch.none cfg0.spec d (fun b => m ((d : Thread nD τ).loc b)) ∗ levAts L lv
        ∗ Pipeline.launchCred owed₀ d ∗ prngReg d (ρ d) ∗ G' m d)
      ⊢ |={Set.univ}=> iprop(brings m d ∗ emp) := by
  rw [Pipeline.unscopedRestP_none, unscopedRest0_eq]
  unfold brings G' known
  iintro ⟨⟨Hx, Hv⟩, Hl, Hc, -, ⟨%K, HR, Hs⟩⟩
  ihave Hc := (creds d) $$ Hc
  imodintro
  isplitl
  · isplitl [HR Hl]
    · iexists K
      isplitl [HR]; · iexact HR
      iexact Hl
    isplitl [Hs]; · iexact Hs
    isplitl [Hc]; · iexact Hc
    isplitl [Hx]; · iexact Hx
    iexact Hv
  iempintro

theorem enter (d : Dev nD) :
    iprop(brings m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = iprop(brings m d ∗ someIn (F := F) d ∗ someOut (F := F) d) from rfl, scopedRest0_eq]
  unfold someIn someOut
  iintro ⟨Hb, -, Hi, Ho⟩
  isplitl [Hb]; · iexact Hb
  isplitl [Hi]; · iexact Hi
  iexact Ho

theorem exit (d : Dev nD) : (dats m 0 d).Φ (Fin.last cfg0.N)
    ⊢ iprop(leaves m d ∗ Pipeline.ownSems0 osem d ∗ Pipeline.scopedRest cfg0.spec d) := by
  rw [show (dats m 0 d).Φ (Fin.last cfg0.N) = finished m d from rfl, scopedRest0_eq]
  exact finished_elim m d

/-- What a final state shows of device `d`. -/
def Shows (d : Dev nD) (s : MemSt nD τ sig (Elt F)) : Prop :=
  (s.mem ((d : Thread nD τ).loc main_arg0) = m ((d : Thread nD τ).loc main_arg0) ∧ Final m d (s.mem ((d : Thread nD τ).loc main_v1)))
    ∧ ∀ sm : SemLoc sig, sm.isScoped .tc = false → s.sem ((d : Thread nD τ), sm) = 0

theorem seen (d : Dev nD) (s' : Phys nD τ sig (Elt F)) :
    iprop(leaves m d ∗ emp ∗ SI s') ⊢ |={Set.univ}=> (iprop(⌜Shows m d s'.mem⌝ ∗ SI s') : sProp 𝕄) := by
  unfold leaves
  iintro ⟨⟨Hx, ⟨%g, %hg, Hv⟩, Hu⟩, -, HSI⟩
  icombine HSI Hx gives %h1
  icombine HSI Hv gives %h2
  imod (Pipeline.unscopedSems0_read (X := unscopedSems0 d) (c := d) fupd_intro s') $$ [Hu HSI] with ⟨%h3, HSI⟩
  · isplitl [Hu] <;> iassumption
  imodintro
  isplitr
  · ipureintro
    refine ⟨⟨Buf.eq_of_forall_mem_univ h1, ?_⟩, h3⟩
    rw [Buf.eq_of_forall_mem_univ h2]; exact hg
  iexact HSI

set_option maxRecDepth 8000 in
theorem run_main : θ_run defs (onTc (τ := τ) (main (F := F))) ⟨m, fun _ => 0, ρ⟩ (fun r =>
    (∀ d : Dev nD, r.2.mem ((d : Thread nD τ).loc main_arg0) = m ((d : Thread nD τ).loc main_arg0)
      ∧ Final m d (r.2.mem ((d : Thread nD τ).loc main_v1))) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun d => (one_point m d).loose) (hne := fun w => w.elim0) (harr := arr_whole0) (hstage := stage_whole0) (hshare := fun _ w => w.elim0)
    (hdistinct := winFacts0.arr_inj)
    (O₀ := owed₀) (howed₀ := fun _ => rfl) (howedN := fun _ => rfl)
    (L := L) (lv := lv) (hL := L_of_ne)
    (hwaits := fun d => Pipeline.cellsWaits_intro cfgs (dats m) () 0 d fun w => w.elim0)
    (G := G m) (G' := G' m) (u₀ := u₀)
    (hu₀ := by
      unfold u₀
      iintro Hu
      ihave H := (ownU_parts _ _) $$ Hu
      icases H with ⟨HP, HX⟩
      imod (fund_all m) $$ HX with HG
      imodintro
      isplitl [HP] <;> iassumption)
    (hglob := glob m)
    (hA := fun _ w => w.elim0) (hpf := fun _ k => k.elim0)
    (X := brings m) (Y := leaves m) (Z := fun _ => iprop(emp))
    (hX := brings_intro m ρ) (hin := enter m) (hout := exit m)
    (QY := Shows m) (hY := seen m)
    (hQ := fun _ h hs => ⟨fun d => (h d).2.2.1, sem_eq_zero hs fun d => (h d).2.2.2⟩)

end Cert.Gather

end
-- ==== Proof.Value.lean ====
/-
# The value

The blocks a device ends with are the whole argument's, rounded to bf16: element by element, a block's place in the
result is its place in the whole argument.
-/
module

public import proofs.«01_k».proof.Proof.Pieces
public import Idealize.ShloMosaic.Lib.Pointwise.ElementwiseCore

@[expose] public section

noncomputable section

namespace Cert.Gather

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- The device whose argument a block of the result is read from, and the copy that reads it. -/
def source (d : Dev nD) (p : Fin 4 × Fin 16) : Dev nD × Fin 32 :=
  match p.1 with
  | 0 => (d, cp p.2.val)
  | 1 => (d, cp (16 + p.2.val))
  | 2 => (yDev d, cp p.2.val)
  | 3 => (yDev (xDev d), cp p.2.val)

theorem place_source (d : Dev nD) (p : Fin 4 × Fin 16) : place d p = outB (source d p).1 (source d p).2 := by
  obtain ⟨i, j⟩ := p
  fin_cases i
  · rfl
  · rfl
  · exact (own_yDev d j).symm
  · exact (own_yDev (xDev d) j).symm

theorem placeVal_source (d : Dev nD) (p : Fin 4 × Fin 16) : placeVal m d p = val m (source d p).1 (source d p).2 := by
  obtain ⟨i, j⟩ := p
  fin_cases i <;> rfl

/-- A copy writes its block as many blocks further down as its device's half of the rows begins. -/
theorem outB_val (e : Dev nD) (n : Fin 32) : (outB e n).val = 32 * (e.val % 2) + (inB e n).val := by
  have := (inB e n).isLt
  show (32 * (e.val % 2) + (inB e n).val) % 64 = _
  omega

/-- Blocks read by coordinates. -/
theorem read_oRow (b : Fin 64) (g : S65536x1024.Idx → Elt F .bf16) (k : S1024x1024.Idx) (i : S65536x1024.Idx)
    (h0 : (i 0).val = 1024 * b.val + (k 0).val) (h1 : (i 1).val = (k 1).val) : (oRow b).view.read (Elt F) g k = g i := by
  show g ((oRow b).view.emb k) = g i
  refine congrArg g (funext fun a => Fin.ext ?_)
  match a with
  | 0 => show 1024 * b.val + 1 * (k 0).val = (i 0).val; omega
  | 1 => show 0 + 1 * (k 1).val = (i 1).val; omega

theorem read_xRow (b : Fin 32) (g : S32768x1024.Idx → Elt F .f32) (k : S1024x1024.Idx) (i : S32768x1024.Idx)
    (h0 : (i 0).val = 1024 * b.val + (k 0).val) (h1 : (i 1).val = (k 1).val) : (xRow b).view.read (Elt F) g k = g i := by
  show g ((xRow b).view.emb k) = g i
  refine congrArg g (funext fun a => Fin.ext ?_)
  match a with
  | 0 => show 1024 * b.val + 1 * (k 0).val = (i 0).val; omega
  | 1 => show 0 + 1 * (k 1).val = (i 1).val; omega

/-- A device's argument: the half of the whole's rows its coordinate along `y` names. -/
abbrev piece (e : Dev nD) (X : S65536x1024.Idx → Elt F .f32) : S32768x1024.Idx → Elt F .f32 :=
  Layout.blockN ⟨2, ![32768, 1024]⟩ ⟨2, ![65536, 1024]⟩ (Layout.meshBlock [2, 2] ![[1], []] e) X

theorem row_coord (e : Dev nD) : Layout.meshLin [2, 2] e.val [1] = e.val % 2 := by
  revert e; decide

theorem piece_apply (e : Dev nD) (X : S65536x1024.Idx → Elt F .f32) (k : S32768x1024.Idx) (i : S65536x1024.Idx)
    (h0 : (i 0).val = 32768 * (e.val % 2) + (k 0).val) (h1 : (i 1).val = (k 1).val) : piece e X k = X i := by
  unfold piece
  rw [Layout.blockN_apply]
  refine congrArg X (funext fun a => Fin.ext ?_)
  rw [Layout.TilesN.idx_val]
  match a with
  | 0 =>
    show Layout.meshLin [2, 2] e.val [1] * 32768 + (k 0).val = (i 0).val
    rw [row_coord]; omega
  | 1 => show 0 * 1024 + (k 1).val = (i 1).val; omega

/-- Every block at its value makes the whole result the rounded whole argument. -/
theorem final_eq (X : S65536x1024.Idx → Elt F .f32) (hX : ∀ e : Dev nD, m ((e : Thread nD τ).loc main_arg0) = piece e X)
    (d : Dev nD) (g : S65536x1024.Idx → Elt F .bf16) (h : Final m d g) :
    g = (truncf .bf16 (X : FVec F S65536x1024 .f32) bitsLt_bf16_f32 : FVec F S65536x1024 .bf16) := by
  funext i
  have hi : (i 0).val < 65536 := (i 0).isLt
  have hb : (i 0).val / 1024 < 64 := by omega
  obtain ⟨p, hp⟩ := (placeEquiv d).surjective ⟨(i 0).val / 1024, hb⟩
  have hpl : (place d p).val = (i 0).val / 1024 := congrArg Fin.val hp
  have ho := outB_val (source d p).1 (source d p).2
  rw [← place_source] at ho
  let k : S1024x1024.Idx := fun a => match a with
    | 0 => ⟨(i 0).val % 1024, Nat.mod_lt _ (by decide)⟩
    | 1 => i 1
  have hin := (inB (source d p).1 (source d p).2).isLt
  let q : S32768x1024.Idx := fun a => match a with
    | 0 => ⟨1024 * (inB (source d p).1 (source d p).2).val + (i 0).val % 1024, by
        show _ < 32768
        omega⟩
    | 1 => i 1
  have hk : (k 0).val = (i 0).val % 1024 := rfl
  have hq : (q 0).val = 1024 * (inB (source d p).1 (source d p).2).val + (i 0).val % 1024 := rfl
  have hg : (oRow (place d p)).view.read (Elt F) g k = g i := read_oRow _ g k i (by rw [hpl, hk]; omega) rfl
  have hx : xval m (source d p).1 (source d p).2 k = X i := by
    unfold xval
    rw [hX]
    exact (read_xRow _ _ k q (by rw [hq, hk]) rfl).trans (piece_apply _ X q i (by rw [hq]; omega) rfl)
  rw [← hg, h p, placeVal_source]
  unfold val
  rw [Idealize.ShloMosaic.truncf_apply, Idealize.ShloMosaic.truncf_apply, hx]

end Cert.Gather

end
-- ==== Proof.lean ====
/-
# The claims

Three frames (the kernel over words, over the extended reals, and the reference), the kernel's idealization, and the
value: every device's result is the reference's. The run of the kernel is proved once, over any float values
(Proof/Run.lean), and what it leaves in the result is compared with the reference in Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import proofs.«01_k».proof.Proof.Run
public import proofs.«01_k».proof.Proof.Value
public import Idealize.ShloMosaic.Init

@[expose] public section

noncomputable section

namespace Cert.Proof

open Idealize.ShloMosaic Idealize.SL.Sem Cert.Kernel

/-- The kernel as printed over words has the text of the ideal one: its frame is the same run, at words. -/
theorem frame_kernel : Cert.quiescent_Kernel := fun m ρ _ =>
  (θ_run Cert.KernelIdeal.defs _ _).mono (fun _ h => ⟨fun c => (h.1 c).1, h.2⟩) (Cert.Gather.run_main (F := Bits) m ρ)

/-- The same run over the extended reals. -/
theorem frame_ideal : Cert.quiescent_KernelIdeal := fun m ρ _ =>
  (θ_run Cert.KernelIdeal.defs _ _).mono (fun _ h => ⟨fun c => (h.1 c).1, h.2⟩) (Cert.Gather.run_main (F := Ideal) m ρ)

/-- The reference is one operation on one device, which has no semaphore. -/
theorem frame_reference : Cert.quiescent_ReferenceIdeal := fun m ρ _ =>
  (θ_run Cert.ReferenceIdeal.defs _ _).mono
    (fun r h => ⟨fun c => (h c).2, sem_eq_zero_of_no_sems rfl r.2⟩) (Cert.ReferenceIdeal.Value.run (F := Ideal) m ρ)

/-- Both results are the whole argument rounded to bf16. -/
theorem same_value : Cert.algebraic_KernelIdeal_ReferenceIdeal := by
  intro m ρ m' ρ' _ hX
  refine ⟨_, (θ_run Cert.KernelIdeal.defs _ _).mono
      (fun _ h c => ⟨Cert.Gather.final_eq m _ hX c _ (h.1 c).2, (h.1 c).1⟩) (Cert.Gather.run_main (F := Ideal) m ρ), ?_⟩
  exact (θ_run Cert.ReferenceIdeal.defs _ _).mono (fun _ h => h 0) (Cert.ReferenceIdeal.Value.run (F := Ideal) m' ρ')

/-- All five claims. -/
theorem claim : Cert.Claim :=
  ⟨Cert.Kernel.Gen.facts, Cert.KernelIdeal.Gen.facts, Cert.ReferenceIdeal.Gen.facts,
    frame_kernel, frame_ideal, frame_reference, trivial, same_value⟩

end Cert.Proof

end
